-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x2048 : Shape := ⟨2, ![4096, 2048]⟩
abbrev S4096x128 : Shape := ⟨2, ![4096, 128]⟩
abbrev S16x256x128 : Shape := ⟨3, ![16, 256, 128]⟩
abbrev S1x128 : Shape := ⟨2, ![1, 128]⟩
abbrev S16x1x128 : Shape := ⟨3, ![16, 1, 128]⟩
abbrev S16 : Shape := ⟨1, ![16]⟩
abbrev S_ : Shape := ⟨0, ![]⟩
abbrev S256x128 : Shape := ⟨2, ![256, 128]⟩
abbrev S1x256x128 : Shape := ⟨3, ![1, 256, 128]⟩
abbrev S1 : Shape := ⟨1, ![1]⟩
abbrev S1x1x1 : Shape := ⟨3, ![1, 1, 1]⟩
abbrev S128 : Shape := ⟨1, ![128]⟩
abbrev S1x1x128 : Shape := ⟨3, ![1, 1, 128]⟩
abbrev S16x1x1 : Shape := ⟨3, ![16, 1, 1]⟩
abbrev S1x16 : Shape := ⟨2, ![1, 16]⟩
abbrev S1x1 : Shape := ⟨2, ![1, 1]⟩

abbrev nBuf : Space → Nat
  | .hbm => 3
  | .vmem => 7
  | .smem => 0
  | _ => 0

abbrev bufTy : (tb : Table) → Fin (tcTables nBuf tb) → BufTy
  | .hbm, ⟨0, _⟩ => ⟨S256x4096, .bf16⟩
  | .hbm, ⟨1, _⟩ => ⟨S4096x2048, .bf16⟩
  | .hbm, ⟨2, _⟩ => ⟨S4096x128, .f32⟩
  | .local _ .vmem, ⟨0, _⟩ => ⟨S256x4096, .bf16⟩
  | .local _ .vmem, ⟨1, _⟩ => ⟨S4096x2048, .bf16⟩
  | .local _ .vmem, ⟨2, _⟩ => ⟨S4096x128, .f32⟩
  | .local _ .vmem, ⟨3, _⟩ => ⟨S16x256x128, .bf16⟩
  | .local _ .vmem, ⟨4, _⟩ => ⟨S16x256x128, .bf16⟩
  | .local _ .vmem, ⟨5, _⟩ => ⟨S1x128, .f32⟩
  | .local _ .vmem, ⟨6, _⟩ => ⟨S16x1x128, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c0_i32_63 : BitVec 32) : Fin 2 → Nat :=
  let c0_65 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_62 : BitVec 32 := 1#32
  let v66 : BitVec 32 := Scalar.addi v2 c1_i32_62
  let v67 : BitVec 32 := Scalar.addi v66 c0_i32_63
  let c16_i32_64 : BitVec 32 := 16#32
  let v68 : BitVec 32 := Scalar.remsi v67 c16_i32_64
  let c128_i32 : BitVec 32 := 128#32
  let v69 : BitVec 32 := Scalar.muli v68 c128_i32
  let v70 : Index := Scalar.indexCast v69
  ![0, v70.toNat]
def k0_off2 (d0 : Dev nD) (c0_i32_63 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_62 : BitVec 32 := 1#32
  let v66 : BitVec 32 := Scalar.addi v2 c1_i32_62
  let v67 : BitVec 32 := Scalar.addi v66 c0_i32_63
  let c16_i32_64 : BitVec 32 := 16#32
  let v68 : BitVec 32 := Scalar.remsi v67 c16_i32_64
  let v82 : Index := Scalar.indexCast v68
  let c0_69 : Index := 0#32
  let c0_70 : Index := 0#32
  ![v82.toNat, 0, 0]
def k0_off3 (d0 : Dev nD) (c0_i32_63 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_62 : BitVec 32 := 1#32
  let v66 : BitVec 32 := Scalar.addi v2 c1_i32_62
  let v67 : BitVec 32 := Scalar.addi v66 c0_i32_63
  let c16_i32_64 : BitVec 32 := 16#32
  let v68 : BitVec 32 := Scalar.remsi v67 c16_i32_64
  ![v68.toNat]
def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_73 : BitVec 32 := 0#32
  let c0_i32_74 : BitVec 32 := 0#32
  ![v2.toNat, 0, 0]
def k0_off6 (d0 : Dev nD) (c0_i32_63 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_62 : BitVec 32 := 1#32
  let v66 : BitVec 32 := Scalar.addi v2 c1_i32_62
  let v67 : BitVec 32 := Scalar.addi v66 c0_i32_63
  let c16_i32_64 : BitVec 32 := 16#32
  let v68 : BitVec 32 := Scalar.remsi v67 c16_i32_64
  let c0_i32_75 : BitVec 32 := 0#32
  let c0_i32_76 : BitVec 32 := 0#32
  ![v68.toNat, 0, 0]
def k0_dev16 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_62 : BitVec 32 := 1#32
  let v66 : BitVec 32 := Scalar.addi v2 c1_i32_62
  let c0_i32_63 : BitVec 32 := 0#32
  let v67 : BitVec 32 := Scalar.addi v66 c0_i32_63
  let c16_i32_64 : BitVec 32 := 16#32
  let v68 : BitVec 32 := Scalar.remsi v67 c16_i32_64
  let c1_i32_71 : BitVec 32 := 1#32
  let v86 : BitVec 32 := Scalar.muli v68 c1_i32_71
  let v87 : BitVec 32 := Scalar.addi c0_i32_72 v86
  v87.toNat
def k0_dev17 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_77 : BitVec 32 := 1#32
  let v96 : BitVec 32 := Scalar.addi v2 c1_i32_77
  let c1_i32_78 : BitVec 32 := 1#32
  let v97 : BitVec 32 := Scalar.addi v96 c1_i32_78
  let c16_i32_79 : BitVec 32 := 16#32
  let v98 : BitVec 32 := Scalar.remsi v97 c16_i32_79
  let c1_i32_87 : BitVec 32 := 1#32
  let v116 : BitVec 32 := Scalar.muli v98 c1_i32_87
  let v117 : BitVec 32 := Scalar.addi c0_i32_88 v116
  v117.toNat
def k0_dev18 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_93 : BitVec 32 := 1#32
  let v126 : BitVec 32 := Scalar.addi v2 c1_i32_93
  let c2_i32_94 : BitVec 32 := 2#32
  let v127 : BitVec 32 := Scalar.addi v126 c2_i32_94
  let c16_i32_95 : BitVec 32 := 16#32
  let v128 : BitVec 32 := Scalar.remsi v127 c16_i32_95
  let c1_i32_103 : BitVec 32 := 1#32
  let v146 : BitVec 32 := Scalar.muli v128 c1_i32_103
  let v147 : BitVec 32 := Scalar.addi c0_i32_104 v146
  v147.toNat
def k0_dev19 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_109 : BitVec 32 := 1#32
  let v156 : BitVec 32 := Scalar.addi v2 c1_i32_109
  let c3_i32_110 : BitVec 32 := 3#32
  let v157 : BitVec 32 := Scalar.addi v156 c3_i32_110
  let c16_i32_111 : BitVec 32 := 16#32
  let v158 : BitVec 32 := Scalar.remsi v157 c16_i32_111
  let c1_i32_119 : BitVec 32 := 1#32
  let v176 : BitVec 32 := Scalar.muli v158 c1_i32_119
  let v177 : BitVec 32 := Scalar.addi c0_i32_120 v176
  v177.toNat
def k0_dev20 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_125 : BitVec 32 := 1#32
  let v186 : BitVec 32 := Scalar.addi v2 c1_i32_125
  let c4_i32_126 : BitVec 32 := 4#32
  let v187 : BitVec 32 := Scalar.addi v186 c4_i32_126
  let c16_i32_127 : BitVec 32 := 16#32
  let v188 : BitVec 32 := Scalar.remsi v187 c16_i32_127
  let c1_i32_135 : BitVec 32 := 1#32
  let v206 : BitVec 32 := Scalar.muli v188 c1_i32_135
  let v207 : BitVec 32 := Scalar.addi c0_i32_136 v206
  v207.toNat
def k0_dev21 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_141 : BitVec 32 := 1#32
  let v216 : BitVec 32 := Scalar.addi v2 c1_i32_141
  let c5_i32_142 : BitVec 32 := 5#32
  let v217 : BitVec 32 := Scalar.addi v216 c5_i32_142
  let c16_i32_143 : BitVec 32 := 16#32
  let v218 : BitVec 32 := Scalar.remsi v217 c16_i32_143
  let c1_i32_151 : BitVec 32 := 1#32
  let v236 : BitVec 32 := Scalar.muli v218 c1_i32_151
  let v237 : BitVec 32 := Scalar.addi c0_i32_152 v236
  v237.toNat
def k0_dev22 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_157 : BitVec 32 := 1#32
  let v246 : BitVec 32 := Scalar.addi v2 c1_i32_157
  let c6_i32_158 : BitVec 32 := 6#32
  let v247 : BitVec 32 := Scalar.addi v246 c6_i32_158
  let c16_i32_159 : BitVec 32 := 16#32
  let v248 : BitVec 32 := Scalar.remsi v247 c16_i32_159
  let c1_i32_167 : BitVec 32 := 1#32
  let v266 : BitVec 32 := Scalar.muli v248 c1_i32_167
  let v267 : BitVec 32 := Scalar.addi c0_i32_168 v266
  v267.toNat
def k0_dev23 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_173 : BitVec 32 := 1#32
  let v276 : BitVec 32 := Scalar.addi v2 c1_i32_173
  let c7_i32_174 : BitVec 32 := 7#32
  let v277 : BitVec 32 := Scalar.addi v276 c7_i32_174
  let c16_i32_175 : BitVec 32 := 16#32
  let v278 : BitVec 32 := Scalar.remsi v277 c16_i32_175
  let c1_i32_183 : BitVec 32 := 1#32
  let v296 : BitVec 32 := Scalar.muli v278 c1_i32_183
  let v297 : BitVec 32 := Scalar.addi c0_i32_184 v296
  v297.toNat
def k0_dev24 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_189 : BitVec 32 := 1#32
  let v306 : BitVec 32 := Scalar.addi v2 c1_i32_189
  let c8_i32_190 : BitVec 32 := 8#32
  let v307 : BitVec 32 := Scalar.addi v306 c8_i32_190
  let c16_i32_191 : BitVec 32 := 16#32
  let v308 : BitVec 32 := Scalar.remsi v307 c16_i32_191
  let c1_i32_199 : BitVec 32 := 1#32
  let v326 : BitVec 32 := Scalar.muli v308 c1_i32_199
  let v327 : BitVec 32 := Scalar.addi c0_i32_200 v326
  v327.toNat
def k0_dev25 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_205 : BitVec 32 := 1#32
  let v336 : BitVec 32 := Scalar.addi v2 c1_i32_205
  let c9_i32_206 : BitVec 32 := 9#32
  let v337 : BitVec 32 := Scalar.addi v336 c9_i32_206
  let c16_i32_207 : BitVec 32 := 16#32
  let v338 : BitVec 32 := Scalar.remsi v337 c16_i32_207
  let c1_i32_215 : BitVec 32 := 1#32
  let v356 : BitVec 32 := Scalar.muli v338 c1_i32_215
  let v357 : BitVec 32 := Scalar.addi c0_i32_216 v356
  v357.toNat
def k0_dev26 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_221 : BitVec 32 := 1#32
  let v366 : BitVec 32 := Scalar.addi v2 c1_i32_221
  let c10_i32_222 : BitVec 32 := 10#32
  let v367 : BitVec 32 := Scalar.addi v366 c10_i32_222
  let c16_i32_223 : BitVec 32 := 16#32
  let v368 : BitVec 32 := Scalar.remsi v367 c16_i32_223
  let c1_i32_231 : BitVec 32 := 1#32
  let v386 : BitVec 32 := Scalar.muli v368 c1_i32_231
  let v387 : BitVec 32 := Scalar.addi c0_i32_232 v386
  v387.toNat
def k0_dev27 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_237 : BitVec 32 := 1#32
  let v396 : BitVec 32 := Scalar.addi v2 c1_i32_237
  let c11_i32_238 : BitVec 32 := 11#32
  let v397 : BitVec 32 := Scalar.addi v396 c11_i32_238
  let c16_i32_239 : BitVec 32 := 16#32
  let v398 : BitVec 32 := Scalar.remsi v397 c16_i32_239
  let c1_i32_247 : BitVec 32 := 1#32
  let v416 : BitVec 32 := Scalar.muli v398 c1_i32_247
  let v417 : BitVec 32 := Scalar.addi c0_i32_248 v416
  v417.toNat
def k0_dev28 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_253 : BitVec 32 := 1#32
  let v426 : BitVec 32 := Scalar.addi v2 c1_i32_253
  let c12_i32_254 : BitVec 32 := 12#32
  let v427 : BitVec 32 := Scalar.addi v426 c12_i32_254
  let c16_i32_255 : BitVec 32 := 16#32
  let v428 : BitVec 32 := Scalar.remsi v427 c16_i32_255
  let c1_i32_263 : BitVec 32 := 1#32
  let v446 : BitVec 32 := Scalar.muli v428 c1_i32_263
  let v447 : BitVec 32 := Scalar.addi c0_i32_264 v446
  v447.toNat
def k0_dev29 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_269 : BitVec 32 := 1#32
  let v456 : BitVec 32 := Scalar.addi v2 c1_i32_269
  let c13_i32_270 : BitVec 32 := 13#32
  let v457 : BitVec 32 := Scalar.addi v456 c13_i32_270
  let c16_i32_271 : BitVec 32 := 16#32
  let v458 : BitVec 32 := Scalar.remsi v457 c16_i32_271
  let c1_i32_279 : BitVec 32 := 1#32
  let v476 : BitVec 32 := Scalar.muli v458 c1_i32_279
  let v477 : BitVec 32 := Scalar.addi c0_i32_280 v476
  v477.toNat
def k0_dev30 (d0 : Dev nD) : Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_285 : BitVec 32 := 1#32
  let v486 : BitVec 32 := Scalar.addi v2 c1_i32_285
  let c14_i32_286 : BitVec 32 := 14#32
  let v487 : BitVec 32 := Scalar.addi v486 c14_i32_286
  let c16_i32_287 : BitVec 32 := 16#32
  let v488 : BitVec 32 := Scalar.remsi v487 c16_i32_287
  let c1_i32_295 : BitVec 32 := 1#32
  let v506 : BitVec 32 := Scalar.muli v488 c1_i32_295
  let v507 : BitVec 32 := Scalar.addi c0_i32_296 v506
  v507.toNat
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v532 : Index := Scalar.indexCast v2
  let c0_309 : Index := 0#32
  let c0_310 : Index := 0#32
  ![v532.toNat, 0, 0]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v541 : Index := Scalar.indexCast v2
  let c0_313 : Index := 0#32
  let c0_314 : Index := 0#32
  ![v541.toNat, 0, 0]
def k0_off9 (d0 : Dev nD) (c1_i32_315 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v545 : BitVec 32 := Scalar.addi v2 c1_i32_315
  let c16_i32_316 : BitVec 32 := 16#32
  let v546 : BitVec 32 := Scalar.remsi v545 c16_i32_316
  ![v546.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_319 : BitVec 32 := 0#32
  let c0_i32_320 : BitVec 32 := 0#32
  ![v2.toNat, 0, 0]
def k0_dev31 (d0 : Dev nD) : Nat :=
  let c0_i32_318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_315 : BitVec 32 := 1#32
  let v545 : BitVec 32 := Scalar.addi v2 c1_i32_315
  let c16_i32_316 : BitVec 32 := 16#32
  let v546 : BitVec 32 := Scalar.remsi v545 c16_i32_316
  let c1_i32_317 : BitVec 32 := 1#32
  let v547 : BitVec 32 := Scalar.muli v546 c1_i32_317
  let v548 : BitVec 32 := Scalar.addi c0_i32_318 v547
  v548.toNat
def k0_dev32 (d0 : Dev nD) : Nat :=
  let c0_i32_324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_321 : BitVec 32 := 2#32
  let v555 : BitVec 32 := Scalar.addi v2 c2_i32_321
  let c16_i32_322 : BitVec 32 := 16#32
  let v556 : BitVec 32 := Scalar.remsi v555 c16_i32_322
  let c1_i32_323 : BitVec 32 := 1#32
  let v557 : BitVec 32 := Scalar.muli v556 c1_i32_323
  let v558 : BitVec 32 := Scalar.addi c0_i32_324 v557
  v558.toNat
def k0_dev33 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_327 : BitVec 32 := 3#32
  let v565 : BitVec 32 := Scalar.addi v2 c3_i32_327
  let c16_i32_328 : BitVec 32 := 16#32
  let v566 : BitVec 32 := Scalar.remsi v565 c16_i32_328
  let c1_i32_329 : BitVec 32 := 1#32
  let v567 : BitVec 32 := Scalar.muli v566 c1_i32_329
  let v568 : BitVec 32 := Scalar.addi c0_i32_330 v567
  v568.toNat
def k0_dev34 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_333 : BitVec 32 := 4#32
  let v575 : BitVec 32 := Scalar.addi v2 c4_i32_333
  let c16_i32_334 : BitVec 32 := 16#32
  let v576 : BitVec 32 := Scalar.remsi v575 c16_i32_334
  let c1_i32_335 : BitVec 32 := 1#32
  let v577 : BitVec 32 := Scalar.muli v576 c1_i32_335
  let v578 : BitVec 32 := Scalar.addi c0_i32_336 v577
  v578.toNat
def k0_dev35 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_339 : BitVec 32 := 5#32
  let v585 : BitVec 32 := Scalar.addi v2 c5_i32_339
  let c16_i32_340 : BitVec 32 := 16#32
  let v586 : BitVec 32 := Scalar.remsi v585 c16_i32_340
  let c1_i32_341 : BitVec 32 := 1#32
  let v587 : BitVec 32 := Scalar.muli v586 c1_i32_341
  let v588 : BitVec 32 := Scalar.addi c0_i32_342 v587
  v588.toNat
def k0_dev36 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_345 : BitVec 32 := 6#32
  let v595 : BitVec 32 := Scalar.addi v2 c6_i32_345
  let c16_i32_346 : BitVec 32 := 16#32
  let v596 : BitVec 32 := Scalar.remsi v595 c16_i32_346
  let c1_i32_347 : BitVec 32 := 1#32
  let v597 : BitVec 32 := Scalar.muli v596 c1_i32_347
  let v598 : BitVec 32 := Scalar.addi c0_i32_348 v597
  v598.toNat
def k0_dev37 (d0 : Dev nD) : Nat :=
  let c0_i32_354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_351 : BitVec 32 := 7#32
  let v605 : BitVec 32 := Scalar.addi v2 c7_i32_351
  let c16_i32_352 : BitVec 32 := 16#32
  let v606 : BitVec 32 := Scalar.remsi v605 c16_i32_352
  let c1_i32_353 : BitVec 32 := 1#32
  let v607 : BitVec 32 := Scalar.muli v606 c1_i32_353
  let v608 : BitVec 32 := Scalar.addi c0_i32_354 v607
  v608.toNat
def k0_dev38 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_357 : BitVec 32 := 8#32
  let v615 : BitVec 32 := Scalar.addi v2 c8_i32_357
  let c16_i32_358 : BitVec 32 := 16#32
  let v616 : BitVec 32 := Scalar.remsi v615 c16_i32_358
  let c1_i32_359 : BitVec 32 := 1#32
  let v617 : BitVec 32 := Scalar.muli v616 c1_i32_359
  let v618 : BitVec 32 := Scalar.addi c0_i32_360 v617
  v618.toNat
def k0_dev39 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_363 : BitVec 32 := 9#32
  let v625 : BitVec 32 := Scalar.addi v2 c9_i32_363
  let c16_i32_364 : BitVec 32 := 16#32
  let v626 : BitVec 32 := Scalar.remsi v625 c16_i32_364
  let c1_i32_365 : BitVec 32 := 1#32
  let v627 : BitVec 32 := Scalar.muli v626 c1_i32_365
  let v628 : BitVec 32 := Scalar.addi c0_i32_366 v627
  v628.toNat
def k0_dev40 (d0 : Dev nD) : Nat :=
  let c0_i32_372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_369 : BitVec 32 := 10#32
  let v635 : BitVec 32 := Scalar.addi v2 c10_i32_369
  let c16_i32_370 : BitVec 32 := 16#32
  let v636 : BitVec 32 := Scalar.remsi v635 c16_i32_370
  let c1_i32_371 : BitVec 32 := 1#32
  let v637 : BitVec 32 := Scalar.muli v636 c1_i32_371
  let v638 : BitVec 32 := Scalar.addi c0_i32_372 v637
  v638.toNat
def k0_dev41 (d0 : Dev nD) : Nat :=
  let c0_i32_378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_375 : BitVec 32 := 11#32
  let v645 : BitVec 32 := Scalar.addi v2 c11_i32_375
  let c16_i32_376 : BitVec 32 := 16#32
  let v646 : BitVec 32 := Scalar.remsi v645 c16_i32_376
  let c1_i32_377 : BitVec 32 := 1#32
  let v647 : BitVec 32 := Scalar.muli v646 c1_i32_377
  let v648 : BitVec 32 := Scalar.addi c0_i32_378 v647
  v648.toNat
def k0_dev42 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_381 : BitVec 32 := 12#32
  let v655 : BitVec 32 := Scalar.addi v2 c12_i32_381
  let c16_i32_382 : BitVec 32 := 16#32
  let v656 : BitVec 32 := Scalar.remsi v655 c16_i32_382
  let c1_i32_383 : BitVec 32 := 1#32
  let v657 : BitVec 32 := Scalar.muli v656 c1_i32_383
  let v658 : BitVec 32 := Scalar.addi c0_i32_384 v657
  v658.toNat
def k0_dev43 (d0 : Dev nD) : Nat :=
  let c0_i32_390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_387 : BitVec 32 := 13#32
  let v665 : BitVec 32 := Scalar.addi v2 c13_i32_387
  let c16_i32_388 : BitVec 32 := 16#32
  let v666 : BitVec 32 := Scalar.remsi v665 c16_i32_388
  let c1_i32_389 : BitVec 32 := 1#32
  let v667 : BitVec 32 := Scalar.muli v666 c1_i32_389
  let v668 : BitVec 32 := Scalar.addi c0_i32_390 v667
  v668.toNat
def k0_dev44 (d0 : Dev nD) : Nat :=
  let c0_i32_396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_393 : BitVec 32 := 14#32
  let v675 : BitVec 32 := Scalar.addi v2 c14_i32_393
  let c16_i32_394 : BitVec 32 := 16#32
  let v676 : BitVec 32 := Scalar.remsi v675 c16_i32_394
  let c1_i32_395 : BitVec 32 := 1#32
  let v677 : BitVec 32 := Scalar.muli v676 c1_i32_395
  let v678 : BitVec 32 := Scalar.addi c0_i32_396 v677
  v678.toNat
def k0_dev45 (d0 : Dev nD) : Nat :=
  let c0_i32_402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_399 : BitVec 32 := 15#32
  let v685 : BitVec 32 := Scalar.addi v2 c15_i32_399
  let c16_i32_400 : BitVec 32 := 16#32
  let v686 : BitVec 32 := Scalar.remsi v685 c16_i32_400
  let c1_i32_401 : BitVec 32 := 1#32
  let v687 : BitVec 32 := Scalar.muli v686 c1_i32_401
  let v688 : BitVec 32 := Scalar.addi c0_i32_402 v687
  v688.toNat
def k0_off11 (d0 : Dev nD) (c1_i32_405 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v695 : BitVec 32 := Scalar.subi v2 c1_i32_405
  let c16_i32_406 : BitVec 32 := 16#32
  let v696 : BitVec 32 := Scalar.addi v695 c16_i32_406
  let c16_i32_407 : BitVec 32 := 16#32
  let v697 : BitVec 32 := Scalar.remsi v696 c16_i32_407
  ![v697.toNat]
def k0_off12 (d0 : Dev nD) (c1_i32_405 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v695 : BitVec 32 := Scalar.subi v2 c1_i32_405
  let c16_i32_406 : BitVec 32 := 16#32
  let v696 : BitVec 32 := Scalar.addi v695 c16_i32_406
  let c16_i32_407 : BitVec 32 := 16#32
  let v697 : BitVec 32 := Scalar.remsi v696 c16_i32_407
  let c0_i32_411 : BitVec 32 := 0#32
  let c0_i32_412 : BitVec 32 := 0#32
  ![v697.toNat, 0, 0]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v850 : BitVec 32 := Scalar.muli v2 c256_i32
  let v851 : Index := Scalar.indexCast v850
  let c0_534 : Index := 0#32
  ![v851.toNat, 0]
def k0_off14 (d0 : Dev nD) (c1_i32_535 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v853 : BitVec 32 := Scalar.subi v2 c1_i32_535
  let c16_i32_536 : BitVec 32 := 16#32
  let v854 : BitVec 32 := Scalar.addi v853 c16_i32_536
  let c16_i32_537 : BitVec 32 := 16#32
  let v855 : BitVec 32 := Scalar.remsi v854 c16_i32_537
  let c0_i32_542 : BitVec 32 := 0#32
  let c0_i32_543 : BitVec 32 := 0#32
  ![v855.toNat, 0, 0]
def k0_off15 (d0 : Dev nD) (c1_i32_535 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v853 : BitVec 32 := Scalar.subi v2 c1_i32_535
  let c16_i32_536 : BitVec 32 := 16#32
  let v854 : BitVec 32 := Scalar.addi v853 c16_i32_536
  let c16_i32_537 : BitVec 32 := 16#32
  let v855 : BitVec 32 := Scalar.remsi v854 c16_i32_537
  let v864 : Index := Scalar.indexCast v855
  let c0_546 : Index := 0#32
  let c0_547 : Index := 0#32
  ![v864.toNat, 0, 0]
def k0_off16 (d0 : Dev nD) (c1_i32_535 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v853 : BitVec 32 := Scalar.subi v2 c1_i32_535
  let c16_i32_536 : BitVec 32 := 16#32
  let v854 : BitVec 32 := Scalar.addi v853 c16_i32_536
  let c16_i32_537 : BitVec 32 := 16#32
  let v855 : BitVec 32 := Scalar.remsi v854 c16_i32_537
  let c256_i32_550 : BitVec 32 := 256#32
  let v877 : BitVec 32 := Scalar.muli v855 c256_i32_550
  let v878 : Index := Scalar.indexCast v877
  let c0_551 : Index := 0#32
  ![v878.toNat, 0]
def k0_off17 (d0 : Dev nD) (c1_i32_790 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1258 : BitVec 32 := Scalar.addi v2 c1_i32_790
  let c16_i32_791 : BitVec 32 := 16#32
  let v1259 : BitVec 32 := Scalar.remsi v1258 c16_i32_791
  let c0_i32_794 : BitVec 32 := 0#32
  let c0_i32_795 : BitVec 32 := 0#32
  ![v1259.toNat, 0, 0]
abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Same.lean ====
/- The kernel is the idealization's text: the two programs' definitions are equal. -/
module

public import proofs.«01_k».proof.Proof.Gen.Kernel
public import proofs.«01_k».proof.Proof.Gen.KernelIdeal

@[expose] public section

noncomputable section

namespace Cert.Proof

open Idealize.ShloMosaic

variable {F : FTy → Type} [FloatOps F]

set_option maxRecDepth 100000 in
/-- The bodies are equal, on any buffers. -/
theorem same_body : Cert.Kernel.cc0_body (F := F) = Cert.KernelIdeal.cc0_body (F := F) := rfl

/-- The kernels' tables are equal: the one kernel there is has the one body. -/
theorem same_table : Cert.Kernel.defs₀ (F := F) = Cert.KernelIdeal.defs₀ (F := F) := by
  refine congrArg (Defs.onTc (nD := Cert.Kernel.nD) (τ := Cert.Kernel.τ) (sig := Cert.Kernel.sig) (Val := Elt F) (Λ := Cert.Kernel.Λ₀)) (funext fun l => funext fun x => ?_)
  match l, x with
  | ⟨0, _⟩, (t, s) => rw [same_body]

/-- So the programs' definitions are. -/
theorem same_defs : Cert.Kernel.defs (F := F) = Cert.KernelIdeal.defs (F := F) :=
  congrArg (Pipeline.defs (Cert.Kernel.pcfgs (F := F))) same_table

end Cert.Proof

end
-- ==== Proof.Program.lean ====
/- The kernel body as loops: the printed body is fifteen or sixteen copies of a few short stretches, one per peer.
   Each stretch is written here once, at a step `t`, and the body is the loops over them, definitionally. -/
module

public import proofs.«01_k».proof.Proof.Gen.KernelIdeal.Skeleton
public import Idealize.ShloMosaic.Lib.Pipeline.Regions

@[expose] public section

noncomputable section

namespace Cert.KernelIdeal.Own

open Idealize.ShloMosaic Idealize.ShloMosaic.TcCoe
open Idealize.SL Idealize.SL.Sem
open Cert.KernelIdeal Cert.KernelIdeal.Gen

variable {F : FTy → Type} [FloatOps F]

/-- The last `m` of the `n` steps `f` of a loop, each taking the value the step before it left. -/
def steps {E : Type → Type} {β : Type} {n : ℕ} (f : Fin n → β → Prog E β) : (m : ℕ) → m ≤ n → β → Prog E β
  | 0, _, b => pure b
  | m + 1, h, b => f ⟨n - (m + 1), by omega⟩ b >>= fun b' => steps f m (by omega) b'

/-- The loop of `n` steps `f`, from the value `b`. -/
def loop {E : Type → Type} {β : Type} (n : ℕ) (f : Fin n → β → Prog E β) (b : β) : Prog E β := steps f n le_rfl b

/-- The device the barrier signal of step `t` goes to, as the kernel computes it. -/
def devSig (d : Dev nD) : Fin 15 → Dev nD :=
  ![⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩, ⟨k0_dev8 d, k0_dev8_lt d⟩,
    ⟨k0_dev9 d, k0_dev9_lt d⟩, ⟨k0_dev10 d, k0_dev10_lt d⟩, ⟨k0_dev11 d, k0_dev11_lt d⟩, ⟨k0_dev12 d, k0_dev12_lt d⟩,
    ⟨k0_dev13 d, k0_dev13_lt d⟩, ⟨k0_dev14 d, k0_dev14_lt d⟩, ⟨k0_dev15 d, k0_dev15_lt d⟩]

/-- The device the block of step `t` is copied to, as the kernel computes it. -/
def devBlk (d : Dev nD) : Fin 15 → Dev nD :=
  ![⟨k0_dev16 d, k0_dev16_lt d⟩, ⟨k0_dev17 d, k0_dev17_lt d⟩, ⟨k0_dev18 d, k0_dev18_lt d⟩, ⟨k0_dev19 d, k0_dev19_lt d⟩,
    ⟨k0_dev20 d, k0_dev20_lt d⟩, ⟨k0_dev21 d, k0_dev21_lt d⟩, ⟨k0_dev22 d, k0_dev22_lt d⟩, ⟨k0_dev23 d, k0_dev23_lt d⟩,
    ⟨k0_dev24 d, k0_dev24_lt d⟩, ⟨k0_dev25 d, k0_dev25_lt d⟩, ⟨k0_dev26 d, k0_dev26_lt d⟩, ⟨k0_dev27 d, k0_dev27_lt d⟩,
    ⟨k0_dev28 d, k0_dev28_lt d⟩, ⟨k0_dev29 d, k0_dev29_lt d⟩, ⟨k0_dev30 d, k0_dev30_lt d⟩]

/-- The device the largest entry is copied to at step `t`, as the kernel computes it. -/
def devMax (d : Dev nD) : Fin 15 → Dev nD :=
  ![⟨k0_dev31 d, k0_dev31_lt d⟩, ⟨k0_dev32 d, k0_dev32_lt d⟩, ⟨k0_dev33 d, k0_dev33_lt d⟩, ⟨k0_dev34 d, k0_dev34_lt d⟩,
    ⟨k0_dev35 d, k0_dev35_lt d⟩, ⟨k0_dev36 d, k0_dev36_lt d⟩, ⟨k0_dev37 d, k0_dev37_lt d⟩, ⟨k0_dev38 d, k0_dev38_lt d⟩,
    ⟨k0_dev39 d, k0_dev39_lt d⟩, ⟨k0_dev40 d, k0_dev40_lt d⟩, ⟨k0_dev41 d, k0_dev41_lt d⟩, ⟨k0_dev42 d, k0_dev42_lt d⟩,
    ⟨k0_dev43 d, k0_dev43_lt d⟩, ⟨k0_dev44 d, k0_dev44_lt d⟩, ⟨k0_dev45 d, k0_dev45_lt d⟩]

/-! ## What is computed -/

/-- A device's rows of the product on one column block, clamped below at zero. -/
def reluBlk (x : Vec F S256x4096 .bf16) (w : Vec F S4096x128 .bf16) : FVec F S256x128 .f32 :=
  maximumf (matmul dot_S256x4096_S4096x128_S256x128_1_0_0_1_n_n none (shapeCast S256x4096 x shapeCasts_S256x4096_S256x4096)
    (shapeCast S4096x128 w shapeCasts_S4096x128_S4096x128) (constant S256x128 .f32 0x00000000#32))
    (broadcast S256x128 (Scalar.ofBits .f32 0x00000000#32))

/-- A block in the format it is sent in, with the leading axis of a slot. -/
def packBlk (y : FVec F S256x128 .f32) : Vec F S1x256x128 .bf16 :=
  shapeCast S1x256x128 (truncf .bf16 y bitsLt_bf16_f32) shapeCasts_S256x128_S1x256x128

/-- The larger of a number and a block's largest entry. -/
def maxBlk (a : F .f32) (y : FVec F S256x128 .f32) : F .f32 :=
  Scalar.maximumf a (extractAt ![0, 0, 0] (shapeCast S1x1x1 (multiReduction .maximumf [1, 2] S1
    (shapeCast S1x256x128 y shapeCasts_S256x128_S1x256x128) 0xFF800000#32 reduces_S1x256x128_S1 (.inl rfl) rfl)
    shapeCasts_S1_S1x1x1) inpos_S1x1x1_p0_0_0)

/-- A number in all the 128 places of a row. -/
def rowOf (a : F .f32) : Vec F S1x128 .f32 := shapeCast S1x128 (broadcast S128 a) shapeCasts_S128_S1x128

/-- The same with the leading axis of a slot. -/
def slotRowOf (a : F .f32) : Vec F S1x1x128 .f32 := shapeCast S1x1x128 (broadcast S128 a) shapeCasts_S128_S1x1x128

/-- The scale: the largest of the sixteen devices' largest entries over 127. -/
def scaleOf (v : Vec F S16x1x1 .f32) : F .f32 :=
  Scalar.divf (extractAt ![0, 0] (shapeCast S1x1 (multiReduction .maximumf [1] S1
    (shapeCast S1x16 (shapeCast S16 v shapeCasts_S16x1x1_S16) shapeCasts_S16_S1x16) 0xFF800000#32 reduces_S1x16_S1 (.inl rfl) rfl)
    shapeCasts_S1_S1x1) inpos_S1x1_p0_0) (Scalar.ofBits .f32 0x42FE0000#32)

/-- A block rounded to whole multiples of the scale, at most 127 of them either way. -/
def quantBlk (s : F .f32) (b : Vec F S1x256x128 .bf16) : Vec F S256x128 .f32 :=
  mulf (minimumf (broadcast S256x128 (Scalar.ofBits .f32 0x42FE0000#32))
    (maximumf (broadcast S256x128 (Scalar.ofBits .f32 0xC2FE0000#32))
      (roundeven (divf (extf .f32 (shapeCast S256x128 b shapeCasts_S1x256x128_S256x128) bitsLt_bf16_f32) (broadcast S256x128 s)))))
    (broadcast S256x128 s)

/-! ## The stretches -/

variable (arg0 : Memref sig .tc .vmem S256x4096 .bf16) (harg0 : arg0.IsWhole) (arg1 : Memref sig .tc .vmem S4096x2048 .bf16) (harg1 : arg1.IsWhole)
  (arg2 : Memref sig .tc .vmem S4096x128 .f32) (harg2 : arg2.IsWhole) (arg3 : Memref sig .tc .vmem S16x256x128 .bf16) (harg3 : arg3.IsWhole)
  (arg4 : Memref sig .tc .vmem S16x256x128 .bf16) (harg4 : arg4.IsWhole) (arg5 : Memref sig .tc .vmem S1x128 .f32) (harg5 : arg5.IsWhole)
  (arg6 : Memref sig .tc .vmem S16x1x128 .f32) (harg6 : arg6.IsWhole) (arg7 arg8 arg9 arg10 : DmaSems sig S16)

/-- Step `t` of the entry barrier: signal one peer. -/
def sigStep (d0 : Dev nD) (t : Fin 15) (_ : PUnit) : Prog (TpuEff nD τ sig (Elt F) Λ₀ .tc) PUnit :=
  semSignalWord (devSig d0 t) (SemArray.scalar (sig.barrier 0 rfl) : Sems sig S_).sem 1#32

/-- Step `t` of the products: one column block, folded into the running largest entry, and sent to its owner. -/
def blkStep (d0 : Dev nD) (x : Vec F S256x4096 .bf16) (t : Fin 15) (a : F .f32) : Prog (TpuEff nD τ sig (Elt F) Λ₀ .tc) (F .f32) := do
  let w : Vec F S4096x128 .bf16 ← Prog.lift (.load arg1 (Rect.unit (s := S4096x2048) (k0_off1 d0 (BitVec.ofNat 32 t.val)) S4096x128.size (k0_off1_inb d0 t.castSucc)).toLoadRect (View.loadsAt_vmem h_S4096x128))
  let _ : Vec F S1x256x128 .bf16 ← Prog.lift (.load arg3 (Rect.unit (s := S16x256x128) (k0_off2 d0 (BitVec.ofNat 32 t.val)) S1x256x128.size (k0_off2_inb d0 t)).toLoadRect (View.loadsAt_vmem h_S1x256x128))
  Prog.lift (.store arg3 (Rect.unit (s := S16x256x128) (k0_off2 d0 (BitVec.ofNat 32 t.val)) S1x256x128.size (k0_off2_inb d0 t)) (packBlk (reluBlk x w)) Finset.univ (View.stores_vmem h_S1x256x128 (harg3.storeExact_slice rfl _ (k0_off2_packedbf16 d0 t)) (fun _ => rfl)) (.inl rfl))
  Prog.lift (.enqueueDma ((arg3.slice (Rect.unit (s := S16x256x128) (k0_off6 d0 (BitVec.ofNat 32 t.val)) S1x256x128.size (k0_off6_inb d0 t)) (fun _ => rfl)).squeeze S256x128 squeezes_S1x256x128_S256x128)
    (.remote (Dev.tc (devBlk d0 t)) ((arg4.slice (Rect.unit (s := S16x256x128) (k0_off5 d0) S1x256x128.size (k0_off5_inb d0)) (fun _ => rfl)).squeeze S256x128 squeezes_S1x256x128_S256x128)
      (.dma ((arg7.slice (Rect.unit (s := S16) (k0_off3 d0 (BitVec.ofNat 32 t.val)) S1.size (k0_off3_inb d0 t))).squeeze S_ squeezes_S1_S_).sem))
    (.dma ((arg8.slice (Rect.unit (s := S16) (k0_off4 d0) S1.size (k0_off4_inb d0))).squeeze S_ squeezes_S1_S_).sem)
    ((harg3.wordExact_slice rfl _ (k0_off6_wordsbf16 d0 t)).reshape _ _) ((harg4.wordExact_slice rfl _ (k0_off5_wordsbf16 d0)).reshape _ _) ⟨⟨rfl, Or.inl rfl⟩, trivial⟩)
  pure (maxBlk a (reluBlk x w))

/-- The device's own column block, kept in its own slot, and its largest entry written where it is sent from and kept. -/
def ownStep (d0 : Dev nD) (x : Vec F S256x4096 .bf16) (a : F .f32) : Prog (TpuEff nD τ sig (Elt F) Λ₀ .tc) PUnit := do
  let w : Vec F S4096x128 .bf16 ← Prog.lift (.load arg1 (Rect.unit (s := S4096x2048) (k0_off1 d0 15#32) S4096x128.size (k0_off1_inb d0 15)).toLoadRect (View.loadsAt_vmem h_S4096x128))
  let _ : Vec F S1x256x128 .bf16 ← Prog.lift (.load arg4 (Rect.unit (s := S16x256x128) (k0_off7 d0) S1x256x128.size (k0_off7_inb d0)).toLoadRect (View.loadsAt_vmem h_S1x256x128))
  Prog.lift (.store arg4 (Rect.unit (s := S16x256x128) (k0_off7 d0) S1x256x128.size (k0_off7_inb d0)) (packBlk (reluBlk x w)) Finset.univ (View.stores_vmem h_S1x256x128 (harg4.storeExact_slice rfl _ (k0_off7_packedbf16 d0)) (fun _ => rfl)) (.inl rfl))
  let _ : Vec F S1x128 .f32 ← Prog.lift (.load arg5 (Rect.unit (s := S1x128) ![0, 0] S1x128.size inb_S1x128_S1x128_0_0).toLoadRect (View.loadsAt_vmem h_S1x128))
  Prog.lift (.store arg5 (Rect.unit (s := S1x128) ![0, 0] S1x128.size inb_S1x128_S1x128_0_0) (rowOf (maxBlk a (reluBlk x w))) Finset.univ (View.stores_vmem_bits_univ h_S1x128 rfl) (.inl rfl))
  let _ : Vec F S1x1x128 .f32 ← Prog.lift (.load arg6 (Rect.unit (s := S16x1x128) (k0_off8 d0) S1x1x128.size (k0_off8_inb d0)).toLoadRect (View.loadsAt_vmem h_S1x1x128))
  Prog.lift (.store arg6 (Rect.unit (s := S16x1x128) (k0_off8 d0) S1x1x128.size (k0_off8_inb d0)) (slotRowOf (maxBlk a (reluBlk x w))) Finset.univ (View.stores_vmem_bits_univ h_S1x1x128 rfl) (.inl rfl))

/-- Step `t` of sending the largest entry. -/
def maxStep (d0 : Dev nD) (t : Fin 15) (_ : PUnit) : Prog (TpuEff nD τ sig (Elt F) Λ₀ .tc) PUnit :=
  Prog.lift (.enqueueDma arg5
    (.remote (Dev.tc (devMax d0 t)) ((arg6.slice (Rect.unit (s := S16x1x128) (k0_off10 d0) S1x1x128.size (k0_off10_inb d0)) (fun _ => rfl)).squeeze S1x128 squeezes_S1x1x128_S1x128)
      (.dma ((arg9.slice (Rect.unit (s := S16) (k0_off9 d0 (BitVec.ofNat 32 (1 + t.val))) S1.size (k0_off9_inb d0 t))).squeeze S_ squeezes_S1_S_).sem))
    (.dma ((arg10.slice (Rect.unit (s := S16) (k0_off4 d0) S1.size (k0_off4_inb d0))).squeeze S_ squeezes_S1_S_).sem)
    harg5.wordExact ((View.wordExact_bits rfl).reshape _ _) ⟨⟨rfl, Or.inl rfl⟩, trivial⟩)

/-- Step `t` of receiving the largest entries. -/
def maxWaitStep (d0 : Dev nD) (t : Fin 15) (_ : PUnit) : Prog (TpuEff nD τ sig (Elt F) Λ₀ .tc) PUnit :=
  Prog.lift (.waitDma2 ((arg10.slice (Rect.unit (s := S16) (k0_off11 d0 (BitVec.ofNat 32 (1 + t.val))) S1.size (k0_off11_inb d0 t))).squeeze S_ squeezes_S1_S_).sem
    arg5 ((arg6.slice (Rect.unit (s := S16x1x128) (k0_off12 d0 (BitVec.ofNat 32 (1 + t.val))) S1x1x128.size (k0_off12_inb d0 t)) (fun _ => rfl)).squeeze S1x128 squeezes_S1x1x128_S1x128)
    harg5.wordExact ((View.wordExact_bits rfl).reshape _ _))

/-- The device's own rows of the result, from its own slot. -/
def ownOutStep (d0 : Dev nD) (s : F .f32) : Prog (TpuEff nD τ sig (Elt F) Λ₀ .tc) PUnit := do
  let b : Vec F S1x256x128 .bf16 ← Prog.lift (.load arg4 (Rect.unit (s := S16x256x128) (k0_off7 d0) S1x256x128.size (k0_off7_inb d0)).toLoadRect (View.loadsAt_vmem h_S1x256x128))
  let _ : Vec F S256x128 .f32 ← Prog.lift (.load arg2 (Rect.unit (s := S4096x128) (k0_off13 d0) S256x128.size (k0_off13_inb d0)).toLoadRect (View.loadsAt_vmem h_S256x128))
  Prog.lift (.store arg2 (Rect.unit (s := S4096x128) (k0_off13 d0) S256x128.size (k0_off13_inb d0)) (quantBlk s b) Finset.univ (View.stores_vmem_bits_univ h_S256x128 rfl) (.inl rfl))

/-- Step `t` of receiving the blocks: wait for one and write its rows of the result. -/
def outStep (d0 : Dev nD) (s : F .f32) (t : Fin 15) (_ : PUnit) : Prog (TpuEff nD τ sig (Elt F) Λ₀ .tc) PUnit := do
  Prog.lift (.waitDma2 ((arg8.slice (Rect.unit (s := S16) (k0_off11 d0 (BitVec.ofNat 32 (1 + t.val))) S1.size (k0_off11_inb d0 t))).squeeze S_ squeezes_S1_S_).sem
    ((arg3.slice (Rect.unit (s := S16x256x128) ![0, 0, 0] S1x256x128.size inb_S16x256x128_S1x256x128_0_0_0) (fun _ => rfl)).squeeze S256x128 squeezes_S1x256x128_S256x128)
    ((arg4.slice (Rect.unit (s := S16x256x128) (k0_off14 d0 (BitVec.ofNat 32 (1 + t.val))) S1x256x128.size (k0_off14_inb d0 t)) (fun _ => rfl)).squeeze S256x128 squeezes_S1x256x128_S256x128)
    ((harg3.wordExact_slice rfl _ wordsbf16_S16x256x128_S1x256x128_0_0_0).reshape _ _) ((harg4.wordExact_slice rfl _ (k0_off14_wordsbf16 d0 t)).reshape _ _))
  let b : Vec F S1x256x128 .bf16 ← Prog.lift (.load arg4 (Rect.unit (s := S16x256x128) (k0_off15 d0 (BitVec.ofNat 32 (1 + t.val))) S1x256x128.size (k0_off15_inb d0 t)).toLoadRect (View.loadsAt_vmem h_S1x256x128))
  let _ : Vec F S256x128 .f32 ← Prog.lift (.load arg2 (Rect.unit (s := S4096x128) (k0_off16 d0 (BitVec.ofNat 32 (1 + t.val))) S256x128.size (k0_off16_inb d0 t)).toLoadRect (View.loadsAt_vmem h_S256x128))
  Prog.lift (.store arg2 (Rect.unit (s := S4096x128) (k0_off16 d0 (BitVec.ofNat 32 (1 + t.val))) S256x128.size (k0_off16_inb d0 t)) (quantBlk s b) Finset.univ (View.stores_vmem_bits_univ h_S256x128 rfl) (.inl rfl))

/-- Step `t` of waiting for the device's own copies to have left. -/
def doneStep (d0 : Dev nD) (t : Fin 15) (_ : PUnit) : Prog (TpuEff nD τ sig (Elt F) Λ₀ .tc) PUnit := do
  Prog.lift (.waitDma2 ((arg7.slice (Rect.unit (s := S16) (k0_off9 d0 (BitVec.ofNat 32 (1 + t.val))) S1.size (k0_off9_inb d0 t))).squeeze S_ squeezes_S1_S_).sem
    ((arg3.slice (Rect.unit (s := S16x256x128) (k0_off17 d0 (BitVec.ofNat 32 (1 + t.val))) S1x256x128.size (k0_off17_inb d0 t)) (fun _ => rfl)).squeeze S256x128 squeezes_S1x256x128_S256x128)
    ((arg3.slice (Rect.unit (s := S16x256x128) (k0_off17 d0 (BitVec.ofNat 32 (1 + t.val))) S1x256x128.size (k0_off17_inb d0 t)) (fun _ => rfl)).squeeze S256x128 squeezes_S1x256x128_S256x128)
    ((harg3.wordExact_slice rfl _ (k0_off17_wordsbf16 d0 t)).reshape _ _) ((harg3.wordExact_slice rfl _ (k0_off17_wordsbf16 d0 t)).reshape _ _))
  Prog.lift (.waitDma2 ((arg9.slice (Rect.unit (s := S16) (k0_off9 d0 (BitVec.ofNat 32 (1 + t.val))) S1.size (k0_off9_inb d0 t))).squeeze S_ squeezes_S1_S_).sem
    arg5 arg5 harg5.wordExact harg5.wordExact)

/-- The kernel body as loops. -/
def loops : Prog (TpuEff nD τ sig (Elt F) Λ₀ .tc) PUnit := do
  let d0 : Dev nD ← Prog.lift .deviceId
  loop 15 (sigStep (F := F) d0) ⟨⟩
  semWaitWord (SemArray.scalar (sig.barrier 0 rfl) : Sems sig S_).sem 15#32
  let x : Vec F S256x4096 .bf16 ← Prog.lift (.load arg0 (Rect.unit (s := S256x4096) ![0, 0] S256x4096.size inb_S256x4096_S256x4096_0_0).toLoadRect (View.loadsAt_vmem h_S256x4096))
  let a ← loop 15 (blkStep arg1 arg3 harg3 arg4 harg4 arg7 arg8 d0 x) (Scalar.ofBits .f32 0x00000000#32)
  ownStep arg1 arg4 harg4 arg5 arg6 d0 x a
  loop 15 (maxStep (F := F) arg5 harg5 arg6 arg9 arg10 d0) ⟨⟩
  loop 15 (maxWaitStep (F := F) arg5 harg5 arg6 arg10 d0) ⟨⟩
  let v : Vec F S16x1x1 .f32 ← Prog.lift (.load arg6 (Rect.unit (s := S16x1x128) ![0, 0, 0] S16x1x1.size inb_S16x1x128_S16x1x1_0_0_0).toLoadRect (View.loadsAt_vmem h_S16x1x1))
  ownOutStep arg2 arg4 d0 (scaleOf v)
  loop 15 (outStep arg2 arg3 harg3 arg4 harg4 arg8 d0 (scaleOf v)) ⟨⟩
  loop 15 (doneStep (F := F) arg3 harg3 arg5 harg5 arg7 arg9 d0) ⟨⟩

set_option maxRecDepth 65536 in
/-- The printed body is the loops. -/
theorem body_eq_loops : cc0_body (F := F) arg0 harg0 arg1 harg1 arg2 harg2 arg3 harg3 arg4 harg4 arg5 harg5 arg6 harg6 arg7 arg8 arg9 arg10
    = loops arg0 arg1 arg2 arg3 harg3 arg4 harg4 arg5 harg5 arg6 arg7 arg8 arg9 arg10 := by
  chain_rfl

end Cert.KernelIdeal.Own

end
-- ==== Proof.Loop.lean ====
/- The rule for a loop of steps: each step takes its own resources and what is carried along, and leaves its own results. -/
module

public import proofs.«01_k».proof.Proof.Program
public import Idealize.ShloMosaic.Lib.Tactic

@[expose] public section

noncomputable section

namespace Cert.KernelIdeal.Own

open Idealize.ShloMosaic
open Idealize.SL Idealize.SL.RA Idealize.SL.BI
open scoped Idealize.SL.BI
open Idealize.SL.BI.BIBase Idealize.SL.BI.Laws Idealize.SL.ProofMode Idealize.SL.Sem

universe u w

/-- A family over a set with one more index is that index's member and the rest. -/
theorem bigSep_one_more {M : Type u} [URA M] {I : Type} [DecidableEq I] {s : Finset I} {i : I} (hi : i ∉ s) {Φ : I → sProp M} :
    bigSep (insert i s) Φ = iprop(Φ i ∗ bigSep s Φ) := bigSep_insert hi

section

variable {E : Type → Type} {M : Type u} [URA M] {β γ : Type} {Mask : Sort w} {n : ℕ}
variable (Fr : Mask → sProp M) (wpE : Mask → ∀ ⦃β : Type⦄, E β → sWPT M β) (Es : Mask)
variable [∀ ⦃β : Type⦄ (e : E β), sWPT.Frameable (wpE Es e)]

/-- The last `m` steps, from what is carried at the first of them and the resources of each, end with what is carried
    after the last and the results of each. -/
theorem wp_steps {f : Fin n → β → Prog E β} {R : ℕ → β → sProp M} {Pre Post : Fin n → sProp M}
    (step : ∀ (t : Fin n) (b : β), iprop(R t.val b ∗ Pre t) ⊢ wp Fr wpE Es (f t b) (fun b' => iprop(R (t.val + 1) b' ∗ Post t))) :
    ∀ (m : ℕ) (hm : m ≤ n) (b : β),
      iprop(R (n - m) b ∗ bigSep (Finset.univ.filter fun t : Fin n => n - m ≤ t.val) Pre)
        ⊢ wp Fr wpE Es (steps f m hm b) (fun b' => iprop(R n b' ∗ bigSep (Finset.univ.filter fun t : Fin n => n - m ≤ t.val) Post))
  | 0, hm, b => by
    have e : (Finset.univ.filter fun t : Fin n => n - 0 ≤ t.val) = ∅ :=
      Finset.filter_eq_empty_iff.mpr fun t _ => by have := t.isLt; omega
    rw [e, bigSep_empty, bigSep_empty]
    exact le_wp_ret Fr wpE Es b (fun b' => iprop(R n b' ∗ emp))
  | m + 1, hm, b => by
    have e : (Finset.univ.filter fun t : Fin n => n - (m + 1) ≤ t.val)
        = insert (⟨n - (m + 1), by omega⟩ : Fin n) (Finset.univ.filter fun t : Fin n => n - m ≤ t.val) := by
      ext t; simp only [Finset.mem_filter, Finset.mem_univ, true_and, Finset.mem_insert, Fin.ext_iff]; omega
    have hn : (⟨n - (m + 1), by omega⟩ : Fin n) ∉ (Finset.univ.filter fun t : Fin n => n - m ≤ t.val) := by
      simp only [Finset.mem_filter, Finset.mem_univ, true_and]; omega
    have hs : n - (m + 1) + 1 = n - m := by omega
    simp only [e, bigSep_one_more hn]
    show _ ⊢ wp Fr wpE Es (f ⟨n - (m + 1), _⟩ b >>= fun b' => steps f m _ b') _
    rw [wp_bind]
    have hR (b' : β) : R (n - (m + 1) + 1) b' = R (n - m) b' := by rw [hs]
    have hstep := step ⟨n - (m + 1), by omega⟩ b
    have ih := wp_steps step m (by omega)
    iintro ⟨HR, HP, Hrest⟩
    ihave Hw := hstep $$ [HR HP]
    · isplitl [HR]; · iexact HR
      iexact HP
    iapply (wp_wand Fr wpE Es) $$ Hw
    iintro %b' ⟨HR, HQ⟩
    ihave Hw := (ih b') $$ [HR Hrest]
    · isplitl [HR]
      · ihave HR' := (Entails.of_eq (hR b')) $$ HR
        iexact HR'
      iexact Hrest
    iapply (wp_wand Fr wpE Es) $$ Hw
    iintro %b'' ⟨HR, HQs⟩
    isplitl [HR]; · iexact HR
    isplitl [HQ]; · iexact HQ
    iexact HQs

/-- A loop followed by the rest of the program. -/
theorem wp_loop {f : Fin n → β → Prog E β} (R : ℕ → β → sProp M) (Pre Post : Fin n → sProp M)
    (step : ∀ (t : Fin n) (b : β), iprop(R t.val b ∗ Pre t) ⊢ wp Fr wpE Es (f t b) (fun b' => iprop(R (t.val + 1) b' ∗ Post t)))
    (b : β) {k : β → Prog E γ} {Q : γ → sProp M} :
    iprop(R 0 b ∗ bigSep Finset.univ Pre)
      ⊢ iprop((∀ b', (R n b' ∗ bigSep Finset.univ Post) -∗ wp Fr wpE Es (k b') Q) -∗ wp Fr wpE Es (loop n f b >>= k) Q) := by
  have h := wp_steps Fr wpE Es step n le_rfl b
  have e : (Finset.univ.filter fun t : Fin n => n - n ≤ t.val) = Finset.univ :=
    Finset.filter_true_of_mem fun t _ => by omega
  rw [e, Nat.sub_self] at h
  rw [wp_bind]
  exact h.trans (wp_wand Fr wpE Es)

end

end Cert.KernelIdeal.Own

end
-- ==== Proof.Contents.lean ====
/- The devices, the buffers and their slots, and what each slot holds. -/
module

public import proofs.«01_k».proof.Proof.Loop
public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ValueIdxCore

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The devices -/

/-- The device `k + 1` places after `c` around the ring of sixteen. -/
def peerN (c : Dev nD) (k : ℕ) : Dev nD := ⟨(c.val + k + 1) % 16, Nat.mod_lt _ (by decide)⟩
/-- The device `c` sends to at step `t`. -/
def peer (c : Dev nD) (t : Fin 15) : Dev nD := peerN c t.val
set_option backward.proofsInPublic true in
/-- The device `c` receives from at step `t`: the one for which `c` is the peer at step `t`. -/
def from_ (c : Dev nD) (t : Fin 15) : Dev nD := ⟨(c.val + 15 - t.val) % 16, Nat.mod_lt _ (by decide)⟩

theorem peer_from (c : Dev nD) (t : Fin 15) : peer (from_ c t) t = c := by revert c t; decide +kernel
theorem from_peer (c : Dev nD) (t : Fin 15) : from_ (peer c t) t = c := by revert c t; decide +kernel
theorem peer_ne (c : Dev nD) (t : Fin 15) : peer c t ≠ c := by revert c t; decide +kernel
theorem from_ne (c : Dev nD) (t : Fin 15) : from_ c t ≠ c := by revert c t; decide +kernel
theorem peer_injective (c : Dev nD) : Function.Injective (peer c) := by revert c; unfold Function.Injective; decide +kernel
theorem from_injective (c : Dev nD) : Function.Injective (from_ c) := by revert c; unfold Function.Injective; decide +kernel
theorem from_rev (c : Dev nD) (t : Fin 15) : from_ c t.rev = peer c t := by revert c t; decide +kernel
theorem peerN_last (c : Dev nD) : peerN c 15 = c := by revert c; decide +kernel

/-- All devices move `t + 1` places. -/
def shift (t : Fin 15) : Dev nD ≃ Dev nD := ⟨fun c => peer c t, fun c => from_ c t, fun c => from_peer c t, fun c => peer_from c t⟩

theorem univ_peers (c : Dev nD) : (Finset.univ : Finset (Dev nD)) = insert c (Finset.univ.map ⟨peer c, peer_injective c⟩) := by
  revert c; decide +kernel
theorem univ_from (c : Dev nD) : (Finset.univ : Finset (Dev nD)) = insert c (Finset.univ.map ⟨from_ c, from_injective c⟩) := by
  revert c; decide +kernel

universe u

/-- Something for every device is that for `c` and for each of its peers, -/
theorem bigSep_peers {M : Type u} [URA M] (c : Dev nD) (Φ : Dev nD → sProp M) :
    bigSep Finset.univ Φ = iprop(Φ c ∗ bigSep Finset.univ fun t : Fin 15 => Φ (peer c t)) := by
  have h : c ∉ (Finset.univ : Finset (Fin 15)).map ⟨peer c, peer_injective c⟩ := by
    simp only [Finset.mem_map, Finset.mem_univ, true_and, Function.Embedding.coeFn_mk, not_exists]; exact peer_ne c
  rw [univ_peers c, bigSep_one_more h, bigSep_map]; rfl
/-- or for `c` and for each device it receives from. -/
theorem bigSep_froms {M : Type u} [URA M] (c : Dev nD) (Φ : Dev nD → sProp M) :
    bigSep Finset.univ Φ = iprop(Φ c ∗ bigSep Finset.univ fun t : Fin 15 => Φ (from_ c t)) := by
  have h : c ∉ (Finset.univ : Finset (Fin 15)).map ⟨from_ c, from_injective c⟩ := by
    simp only [Finset.mem_map, Finset.mem_univ, true_and, Function.Embedding.coeFn_mk, not_exists]; exact from_ne c
  rw [univ_from c, bigSep_one_more h, bigSep_map]; rfl
/-- The devices received from, in the other order, are the peers. -/
theorem bigSep_rev {M : Type u} [URA M] (c : Dev nD) (Φ : Dev nD → sProp M) :
    (bigSep Finset.univ fun t : Fin 15 => Φ (from_ c t)) = bigSep Finset.univ fun t : Fin 15 => Φ (peer c t) := by
  rw [bigSep_univ_equiv (Fin.revPerm : Fin 15 ≃ Fin 15)]
  exact bigSep_congr fun t _ => by rw [Fin.revPerm_apply, from_rev]

/-! ## The buffers and their slots -/

abbrev xM : Memref sig .tc .vmem S256x4096 .bf16 := Memref.whole cc0_stg0_0
abbrev wM : Memref sig .tc .vmem S4096x2048 .bf16 := Memref.whole cc0_stg1_0
abbrev oM : Memref sig .tc .vmem S4096x128 .f32 := Memref.whole cc0_stg2_0
abbrev sM : Memref sig .tc .vmem S16x256x128 .bf16 := Memref.whole cc0_scratch0
abbrev rM : Memref sig .tc .vmem S16x256x128 .bf16 := Memref.whole cc0_scratch1
abbrev aM : Memref sig .tc .vmem S1x128 .f32 := Memref.whole cc0_scratch2
abbrev gM : Memref sig .tc .vmem S16x1x128 .f32 := Memref.whole cc0_scratch3

theorem slot_inb (j : Dev nD) : ∀ a, (![j.val, 0, 0] : Fin 3 → ℕ) a + S1x256x128.size a ≤ S16x256x128.size a := by
  revert j; decide +kernel
theorem row_inb (j : Dev nD) : ∀ a, (![j.val, 0, 0] : Fin 3 → ℕ) a + S1x1x128.size a ≤ S16x1x128.size a := by
  revert j; decide +kernel
theorem out_inb (j : Dev nD) : ∀ a, (![256 * j.val, 0] : Fin 2 → ℕ) a + S256x128.size a ≤ S4096x128.size a := by
  revert j; decide +kernel
theorem col_inb (j : Dev nD) : ∀ a, (![0, 128 * j.val] : Fin 2 → ℕ) a + S4096x128.size a ≤ S4096x2048.size a := by
  revert j; decide +kernel
theorem sem_inb (j : Dev nD) : ∀ a, (![j.val] : Fin 1 → ℕ) a + S1.size a ≤ S16.size a := by
  revert j; decide +kernel

abbrev slotR (j : Dev nD) : Rect S16x256x128 := Rect.unit (s := S16x256x128) ![j.val, 0, 0] S1x256x128.size (slot_inb j)
abbrev rowR (j : Dev nD) : Rect S16x1x128 := Rect.unit (s := S16x1x128) ![j.val, 0, 0] S1x1x128.size (row_inb j)
abbrev outR (j : Dev nD) : Rect S4096x128 := Rect.unit (s := S4096x128) ![256 * j.val, 0] S256x128.size (out_inb j)
abbrev colR (j : Dev nD) : Rect S4096x2048 := Rect.unit (s := S4096x2048) ![0, 128 * j.val] S4096x128.size (col_inb j)

/-- Slot `j` of the send buffer, -/
abbrev sSlot (j : Dev nD) : Memref sig .tc .vmem S1x256x128 .bf16 := sM.slice (slotR j) (fun _ => rfl)
/-- of the receive buffer, -/
abbrev rSlot (j : Dev nD) : Memref sig .tc .vmem S1x256x128 .bf16 := rM.slice (slotR j) (fun _ => rfl)
/-- of the received largest entries, -/
abbrev gSlot (j : Dev nD) : Memref sig .tc .vmem S1x1x128 .f32 := gM.slice (rowR j) (fun _ => rfl)
/-- and the rows of the result that come from device `j`. -/
abbrev oSlot (j : Dev nD) : Memref sig .tc .vmem S256x128 .f32 := oM.slice (outR j) (fun _ => rfl)

/-! ## What they hold -/

variable (m : (ℓ : Loc nD τ sig) → Buf (Elt F) ℓ)

/-- Device `c`'s rows of `x`, as staged. -/
def xstg (c : Dev nD) : (cc0_stg0_0 : Ref sig .tc).ty.Contents (Elt F) :=
  (win0_0.blk (0 : Fin 1)).view.read (Elt F) (m ((c : Thread nD τ).loc main_arg0))
/-- The weights, as staged on device `c`. -/
def wstg (c : Dev nD) : (cc0_stg1_0 : Ref sig .tc).ty.Contents (Elt F) :=
  (win0_1.blk (0 : Fin 1)).view.read (Elt F) (m ((c : Thread nD τ).loc main_arg1))
/-- Column block `j` of the weights. -/
def wcol (c j : Dev nD) : Vec F S4096x128 .bf16 := wM.view.readAt (Elt F) (colR j).toLoadRect (wstg m c)
/-- Device `c`'s rows of column block `j` of the clamped product, -/
def blk (c j : Dev nD) : FVec F S256x128 .f32 := reluBlk (xstg m c) (wcol m c j)
/-- as sent. -/
def sent (c j : Dev nD) : Vec F S1x256x128 .bf16 := packBlk (blk m c j)
/-- The largest entry of the first `k` blocks device `c` computes, and zero. -/
def runMax (c : Dev nD) : ℕ → F .f32
  | 0 => Scalar.ofBits .f32 0x00000000#32
  | k + 1 => maxBlk (runMax c k) (blk m c (peerN c k))
/-- The largest entry of all of them. -/
def top (c : Dev nD) : F .f32 := maxBlk (runMax m c 15) (blk m c c)
/-- The sixteen devices' largest entries, -/
def tops : Vec F S16x1x1 .f32 := fun i => top m (i 0)
/-- and the scale they give. -/
def scale : F .f32 := scaleOf (tops m)
/-- The rows of device `c`'s result that come from device `p`. -/
def outBlk (c p : Dev nD) : Vec F S256x128 .f32 := quantBlk (scale m) (sent m p c)
set_option backward.proofsInPublic true in
/-- Device `c`'s result. -/
def outAt (c : Dev nD) : (cc0_stg2_0 : Ref sig .tc).ty.Contents (Elt F) := fun (i : S4096x128.Idx) =>
  outBlk m c ⟨(i 0).val / 256, Nat.div_lt_of_lt_mul (i 0).isLt⟩
    (ValueIdx.ix2 ⟨(i 0).val % 256, Nat.mod_lt _ (by decide)⟩ ⟨(i 1).val, (i 1).isLt⟩)

end Cert.KernelIdeal.Own

end
-- ==== Proof.Protocol.lean ====
/- The semaphore cells, what each hands over when it is waited for, and the order the waits go in. -/
module

public import proofs.«01_k».proof.Proof.Contents
public import Idealize.ShloMosaic.Lib.Transfers

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

/-! ## The resources -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The barrier's semaphore. -/
abbrev barS : Sem sig := (SemArray.scalar (sig.barrier 0 rfl) : Sems sig S_).sem
/-- The four arrays of copy semaphores: 0 a block has left, 1 a block has arrived, 2 a largest entry has left,
    3 a largest entry has arrived. -/
abbrev semArr : Fin 4 → DmaSems sig S16 := ![cc0_scratch4, cc0_scratch5, cc0_scratch6, cc0_scratch7]
set_option backward.proofsInPublic true in
/-- Semaphore `j` of array `k`. -/
def dsem (k : Fin 4) (j : Dev nD) : DmaSem sig := ⟨3 + 16 * k.val + j.val, by have := k.isLt; have : j.val < 16 := j.isLt; show _ < 67; omega⟩

theorem dsem_eq (k : Fin 4) (j : Dev nD) :
    (((semArr k).slice (Rect.unit (s := S16) ![j.val] S1.size (sem_inb j))).squeeze S_ squeezes_S1_S_).sem = dsem k j := by
  revert k j; decide +kernel
/-- The semaphore the kernel names at an offset that is `j`. -/
theorem sem_at (k : Fin 4) (j : Dev nD) {off : Fin 1 → ℕ} (h : off = ![j.val]) (inb : ∀ a, off a + S1.size a ≤ S16.size a) :
    (((semArr k).slice (Rect.unit (s := S16) off S1.size inb)).squeeze S_ squeezes_S1_S_).sem = dsem k j := by
  subst h; exact dsem_eq k j

/-- A cell's name on its device: the barrier, or a semaphore of one of the four arrays. -/
abbrev CIx : Type := Option (Fin 4 × Fin 16)
def csem : CIx → SemLoc sig
  | none => .reg barS
  | some p => .dma (dsem p.1 p.2)
set_option backward.proofsInPublic true in
/-- Which cell a semaphore is, if it is one. -/
def ixOf : SemLoc sig → Option CIx
  | .reg s => if s = barS then some none else none
  | .dma s => if h : 3 ≤ s.val ∧ s.val < 67 then
      some (some (⟨(s.val - 3) / 16, by omega⟩, ⟨(s.val - 3) % 16, Nat.mod_lt _ (by decide)⟩)) else none

theorem ixOf_csem (i : CIx) : ixOf (csem i) = some i := by revert i; decide +kernel
theorem csem_injective : Function.Injective csem := fun i j h => by
  have := congrArg ixOf h; rw [ixOf_csem, ixOf_csem] at this; exact Option.some.inj this
abbrev cell (c : Dev nD) (i : CIx) : GSem nD τ sig := ((c : Thread nD τ), csem i)

/-- The bytes of a block's copy, -/
abbrev N₁ : ℕ := ((rSlot 0).squeeze S256x128 squeezes_S1x256x128_S256x128).view.dmaCredit
/-- and of a largest entry's. -/
abbrev N₂ : ℕ := aM.view.dmaCredit
theorem N₁_pos : 0 < N₁ := View.dmaCredit_pos _ (by decide)
theorem N₂_pos : 0 < N₂ := View.dmaCredit_pos _ (by decide)
def amt : CIx → ℕ
  | none => 1
  | some p => if p.1.val ≤ 1 then N₁ else N₂

/-! ## What the cells hand over -/

variable (m : (ℓ : Loc nD τ sig) → Buf (Elt F) ℓ)

/-- A buffer's part held at contents not said. -/
def held (c : Dev nD) {s : Shape} {e : EltTy} (M : Memref sig .tc .vmem s e) : sProp 𝕄 :=
  iprop(∃ f, M.view.loc (c : Thread nD τ) ↦[M.view.set]{fullShare} f)
/-- The sixteenth of the largest entry's buffer that is lent to the copy to device `j`. -/
def lent (c j : Dev nD) : sProp 𝕄 :=
  aM.view.loc (c : Thread nD τ) ↦[aM.view.set]{shareTok fullShare 16 j} (rowOf (top m c) : Vec F S1x128 .f32)

instance held_storable (c : Dev nD) {s : Shape} {e : EltTy} (M : Memref sig .tc .vmem s e) :
    BI.Storable (upEmb : UEmb _ 𝕄) (held (F := F) c M) := by unfold held; infer_instance
instance lent_storable (c j : Dev nD) : BI.Storable (upEmb : UEmb _ 𝕄) (lent m c j) := by unfold lent; infer_instance

/-- The signal of step `t` tells `c` it may write to its slots on the device the signal is from. -/
def barPay (c : Dev nD) (t : Fin 15) : sProp 𝕄 := iprop(held (from_ c t) (rSlot c) ∗ held (from_ c t) (gSlot c))
/-- What the copy semaphores hand their device `c`: its slot `j` to send from, the block from device `j`, the lent part
    of its largest entry, the largest entry from device `j`. -/
def dmaPay (c : Dev nD) (k : Fin 4) (j : Dev nD) : sProp 𝕄 :=
  if k = 0 then held c (sSlot j)
  else if k = 1 then owns (c : Thread nD τ) (rSlot j) fullShare (sent m j c)
  else if k = 2 then lent m c j
  else owns (c : Thread nD τ) (gSlot j) fullShare (slotRowOf (top m j))
def pay (c : Dev nD) (i : CIx) (d : Fin 15) : sProp 𝕄 := i.elim (barPay c d) fun p => dmaPay m c p.1 p.2

instance pay_storable (c : Dev nD) (i : CIx) (d : Fin 15) : BI.Storable (upEmb : UEmb _ 𝕄) (pay m c i d) := by
  unfold pay barPay dmaPay
  cases i with
  | none => dsimp only [Option.elim]; infer_instance
  | some p => dsimp only [Option.elim]; (repeat' split) <;> infer_instance

/-- Who pays a cell: each of the fifteen peers the barrier, one copy a copy semaphore, nobody the ones a device has for itself. -/
def dutySet (c : Dev nD) : CIx → Finset (Fin 15)
  | none => Finset.univ
  | some p => if p.2 = c then ∅ else {0}

/-- The cells' one round. -/
def Rd : Rounds.Schedule (GSem nD τ sig) (Fin 15) 𝕄 where
  duties g r := if r = 0 ∧ g.1.2 = .tc then (ixOf g.2).elim ∅ (dutySet g.1.1) else ∅
  unitless _ := False
  amount g _ _ := (ixOf g.2).elim 1 amt
  payload g _ d := (ixOf g.2).elim iprop(emp) fun i => pay m g.1.1 i d
  amount_pos g _ _ _ := by
    cases ixOf g.2 with
    | none => exact Nat.one_pos
    | some i =>
      show 0 < amt i
      cases i with
      | none => exact Nat.one_pos
      | some p => unfold amt; dsimp only; split; · exact N₁_pos
                  exact N₂_pos

instance Rd_storable (g : GSem nD τ sig) (r : ℕ) (d : Fin 15) : BI.Storable (upEmb : UEmb _ 𝕄) ((Rd m).payload g r d) := by
  show BI.Storable upEmb ((ixOf g.2).elim iprop(emp) fun i => pay m g.1.1 i d)
  cases ixOf g.2 with
  | none => dsimp only [Option.elim]; infer_instance
  | some i => dsimp only [Option.elim]; infer_instance

section
variable (c : Dev nD) (i : CIx)

theorem dutySet_ne (k : Fin 4) (j : Dev nD) (h : j ≠ c) : dutySet c (some (k, j)) = {0} := if_neg h
theorem dutySet_self (k : Fin 4) : dutySet c (some (k, c)) = ∅ := if_pos rfl
theorem duties_cell : (Rd m).duties (cell c i) 0 = dutySet c i := by
  dsimp only [Rd]; rw [if_pos ⟨rfl, rfl⟩, ixOf_csem]; rfl
theorem duties_later (g : GSem nD τ sig) : ∀ r, 1 ≤ r → (Rd m).duties g r = ∅ :=
  fun r hr => by dsimp only [Rd]; rw [if_neg fun h => by omega]
theorem amount_cell (d : Fin 15) : (Rd m).amount (cell c i) 0 d = amt i := by
  dsimp only [Rd]; rw [ixOf_csem]; rfl
theorem payload_cell (d : Fin 15) : (Rd m).payload (cell c i) 0 d = pay m c i d := by
  dsimp only [Rd]; rw [ixOf_csem]; rfl

/-- The barrier expects one unit from each peer, -/
theorem expect_bar : (Rd m).expect (cell c none) 0 = 15 := by
  unfold Schedule.expect Schedule.amountOf
  rw [duties_cell, Finset.sum_congr rfl fun d _ => amount_cell m c none d]; rfl
/-- a copy semaphore one copy. -/
theorem expect_dma (k : Fin 4) (j : Dev nD) (h : j ≠ c) : (Rd m).expect (cell c (some (k, j))) 0 = amt (some (k, j)) := by
  unfold Schedule.expect Schedule.amountOf
  rw [duties_cell, dutySet_ne c k j h, Finset.sum_singleton, amount_cell]
theorem rest_bar : bigSep ((Rd m).duties (cell c none) 0 \ ∅) (fun d => (Rd m).payload (cell c none) 0 d)
    = bigSep Finset.univ fun t : Fin 15 => barPay (F := F) c t := by
  rw [Finset.sdiff_empty, duties_cell]
  exact bigSep_congr fun d _ => payload_cell m c none d
theorem rest_dma (k : Fin 4) (j : Dev nD) (h : j ≠ c) :
    bigSep ((Rd m).duties (cell c (some (k, j))) 0 \ ∅) (fun d => (Rd m).payload (cell c (some (k, j))) 0 d) = dmaPay m c k j := by
  rw [Finset.sdiff_empty, duties_cell, dutySet_ne c k j h, bigSep_singleton, payload_cell]; rfl
theorem mem_duties (k : Fin 4) (j : Dev nD) (h : j ≠ c) : (0 : Fin 15) ∈ (Rd m).duties (cell c (some (k, j))) 0 := by
  rw [duties_cell, dutySet_ne c k j h]; exact Finset.mem_singleton_self _
theorem no_duties (k : Fin 4) : ∀ r, 0 ≤ r → (Rd m).duties (cell c (some (k, c))) r = ∅ := fun r _ => by
  cases r with
  | zero => rw [duties_cell, dutySet_self]
  | succ r => exact duties_later m _ _ (by omega)

end

/-! ## What is owed, and the order of the waits -/

/-- The signal of step `t`, the block's copy, and the largest entry's. -/
def gSig (c : Dev nD) (t : Fin 15) : CellTallies nD τ sig Unit := tallyAt (cell (peer c t) none) () 1
def gBlk (c : Dev nD) (t : Fin 15) : CellTallies nD τ sig Unit := tallyAt (cell (peer c t) (some (1, c))) () N₁
def gMax (c : Dev nD) (t : Fin 15) : CellTallies nD τ sig Unit := tallyAt (cell (peer c t) (some (3, c))) () N₂
/-- What is owed of a family from step `k` on. -/
def rem (g : Fin 15 → CellTallies nD τ sig Unit) (k : ℕ) : CellTallies nD τ sig Unit :=
  ∑ t ∈ Finset.univ.filter (fun t : Fin 15 => k ≤ t.val), g t
theorem rem_step (g : Fin 15 → CellTallies nD τ sig Unit) (t : Fin 15) : rem g t.val = rem g (t.val + 1) + g t := by
  unfold rem
  have e : (Finset.univ.filter fun t' : Fin 15 => t.val ≤ t'.val) = insert t (Finset.univ.filter fun t' : Fin 15 => t.val + 1 ≤ t'.val) := by
    ext t'; simp only [Finset.mem_filter, Finset.mem_univ, true_and, Finset.mem_insert, Fin.ext_iff]; omega
  rw [e, Finset.sum_insert (by simp), add_comm]
theorem rem_end (g : Fin 15 → CellTallies nD τ sig Unit) : rem g 15 = 0 := by
  unfold rem
  rw [Finset.filter_eq_empty_iff.mpr fun t _ => by have := t.isLt; omega, Finset.sum_empty]
/-- What device `c` owes when the copies start, -/
def O₁ (c : Dev nD) : CellTallies nD τ sig Unit := rem (gBlk c) 0 + rem (gMax c) 0
/-- and at launch. -/
def O₀ (c : Dev nD) : CellTallies nD τ sig Unit := rem (gSig c) 0 + O₁ c

def L (g : GSem nD τ sig) : Finset Unit := if g.1.2 = .tc then {()} else ∅
/-- The barrier first, then what arrives, everything else at any time. -/
def lv (g : GSem nD τ sig) (_ : Unit) : ℕ :=
  (ixOf g.2).elim 0 fun i => i.elim 1 fun p => if p.1 = 1 ∨ p.1 = 3 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : CIx) : lv (cell c i) () = i.elim 1 fun p => if p.1 = 1 ∨ p.1 = 3 then 2 else 0 := by
  unfold lv; rw [ixOf_csem]; rfl

theorem rem_pos {g : Fin 15 → CellTallies nD τ sig Unit} {cl : Fin 15 → GSem nD τ sig} {n : ℕ} (hg : ∀ t, g t = tallyAt (cl t) () n)
    {k : ℕ} {x : GSem nD τ sig} {u : Unit} (h : 0 < rem g k x u) : ∃ t, x = cl t := by
  by_contra hn
  rw [not_exists] at hn
  have : rem g k x u = 0 := by
    unfold rem
    rw [Finset.sum_apply, Finsupp.finset_sum_apply]
    refine Finset.sum_eq_zero fun t _ => ?_
    rw [hg, tallyAt_apply, if_neg fun h' => hn t h'.1]
  omega

theorem O₁_pos {c : Dev nD} {g : GSem nD τ sig} {u : Unit} (h : 0 < O₁ c g u) :
    ∃ p k, (k = 1 ∨ k = 3) ∧ g = cell p (some (k, c)) := by
  unfold O₁ at h
  rw [Pi.add_apply, Finsupp.add_apply] at h
  rcases Nat.add_pos_iff_pos_or_pos.mp h with h | h
  · obtain ⟨t, ht⟩ := rem_pos (fun _ => rfl) h; exact ⟨peer c t, 1, .inl rfl, ht⟩
  · obtain ⟨t, ht⟩ := rem_pos (fun _ => rfl) h; exact ⟨peer c t, 3, .inr rfl, ht⟩
theorem O₀_pos {c : Dev nD} {g : GSem nD τ sig} {u : Unit} (h : 0 < O₀ c g u) :
    (∃ p, g = cell p none) ∨ ∃ p k, (k = 1 ∨ k = 3) ∧ g = cell p (some (k, c)) := by
  unfold O₀ at h
  rw [Pi.add_apply, Finsupp.add_apply] at h
  rcases Nat.add_pos_iff_pos_or_pos.mp h with h | h
  · obtain ⟨t, ht⟩ := rem_pos (fun _ => rfl) h; exact .inl ⟨peer c t, ht⟩
  · exact .inr (O₁_pos h)

/-- The waits for the staging copies may come at any time. -/
theorem mayWait_stage (c : Dev nD) (q : DmaSem sig) (hq : ixOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, rfl⟩ | ⟨p, k, _, rfl⟩ <;> exact Finset.mem_singleton_self _)
      (fun p hp => by rw [Finset.mem_singleton.mp hp]; unfold lv; dsimp only; rw [hq]; exact le_rfl)
      (fun g u hg => by
        rcases O₀_pos hg with ⟨p, rfl⟩ | ⟨p, k, hk, rfl⟩
        · rw [lv_cell]; decide
        · rw [lv_cell]; dsimp only [Option.elim]; rw [if_pos hk]; decide)
  · rw [MayWait_zero]; iintro -; iempintro

/-- The barrier is waited for while only copies are owed. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨p, k, _, rfl⟩ := O₁_pos hg; exact Finset.mem_singleton_self _)
    (fun p hp => by rw [Finset.mem_singleton.mp hp]; exact (lv_cell c none).le)
    (fun g u hg => by
      obtain ⟨p, k, hk, rfl⟩ := O₁_pos hg
      rw [lv_cell]; dsimp only [Option.elim]; rw [if_pos hk]; decide)

end Cert.KernelIdeal.Own

end
-- ==== Proof.Slots.lean ====
/- A buffer is its slots: held whole it is held slot by slot, and slots held at known contents join to known contents. -/
module

public import proofs.«01_k».proof.Proof.Protocol

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Ring
open Idealize.ShloMosaic.Transfers (shareTok shareDrop)

variable {F : FTy → Type} [FloatOps F]

local notation "𝕄" => MT nD τ sig Unit (Elt F) ℕ UU ℕ

/-! ## Any buffer -/

section
variable (c : Dev nD) (b : Ref sig .tc) (r : Dev nD → Rect b.ty.shape) (hr : ∀ p a, (r p).stride a = 1)
  (hd : ∀ p p', p ≠ p' → Disjoint (r p).set (r p').set) (hc : Finset.univ.biUnion (fun p => (r p).set) = Finset.univ)
include hd hc

/-- Held whole, it is held part by part; -/
theorem parts_split {q : PosShare TreeShare} (f : Buf (Elt F) ((c : Thread nD τ).loc b)) :
    (((c : Thread nD τ).loc b) ↦{q} f : sProp 𝕄)
      ⊢ bigSep Finset.univ fun p => (((c : Thread nD τ).loc b) ↦[((View.whole b).slice (r p)).set]{q} f : sProp 𝕄) := by
  rw [pointsTo_blocks (fun p => (r p).set) hd hc f]
  exact Entails.of_eq (bigSep_congr fun p _ => by rw [View.set_slice_whole])

/-- parts held at known contents are the whole held at contents that read so, part by part; -/
theorem parts_join {q : PosShare TreeShare} (f₀ : Buf (Elt F) ((c : Thread nD τ).loc b)) (X : (p : Dev nD) → (r p).shape.Idx → Elt F b.ty.elt) :
    (bigSep Finset.univ fun p => iprop(∃ f : Buf (Elt F) ((c : Thread nD τ).loc b), ⌜((View.whole b).slice (r p)).read (Elt F) f = X p⌝
        ∗ (((c : Thread nD τ).loc b) ↦[((View.whole b).slice (r p)).set]{q} f)))
      ⊢ (iprop(∃ g : Buf (Elt F) ((c : Thread nD τ).loc b), ⌜∀ p, ((View.whole b).slice (r p)).read (Elt F) g = X p⌝ ∗ (((c : Thread nD τ).loc b) ↦{q} g)) : sProp 𝕄) := by
  have hne (p : Dev nD) : Nonempty {f : Buf (Elt F) ((c : Thread nD τ).loc b) // ((View.whole b).slice (r p)).read (Elt F) f = X p} :=
    ⟨⟨((View.whole b).slice (r p)).write (Elt F) f₀ (X p) Finset.univ, View.read_write_univ _ _⟩⟩
  refine (bigSep_mono (Ψ := fun p => iprop(∃ y : {f : Buf (Elt F) ((c : Thread nD τ).loc b) // ((View.whole b).slice (r p)).read (Elt F) f = X p},
      (((c : Thread nD τ).loc b) ↦[(r p).set]{q} y.val))) fun p _ => ?_).trans ?_
  · show (_ : sProp 𝕄) ⊢ _
    rw [View.set_slice_whole]
    iintro ⟨%f, %hf, H⟩
    iexists ⟨f, hf⟩
    iexact H
  refine (bigSep_exists_pi Finset.univ _).trans ?_
  iintro ⟨%y, H⟩
  ihave H := (pointsTo_biUnion_join Finset.univ (fun p => (r p).set) (fun p => (y p).val) f₀ (fun p _ p' _ h => hd p p' h)) $$ H
  icases H with ⟨%g, %hg, H⟩
  iexists g
  isplitr
  · ipureintro
    intro p
    rw [← (y p).property]
    exact View.read_congr fun i hi => hg p (Finset.mem_univ p) i (by rw [View.set_slice_whole] at hi; exact hi)
  rw [hc]
  iexact H

/-- and parts held at contents not said are the whole so held. -/
theorem parts_join_any (f₀ : Buf (Elt F) ((c : Thread nD τ).loc b)) :
    (bigSep Finset.univ fun p => iprop(∃ f : Buf (Elt F) ((c : Thread nD τ).loc b), ((c : Thread nD τ).loc b) ↦[((View.whole b).slice (r p)).set]{fullShare} f))
      ⊢ (iprop(∃ g : Buf (Elt F) ((c : Thread nD τ).loc b), ((c : Thread nD τ).loc b) ↦{fullShare} g) : sProp 𝕄) := by
  have e (p : Dev nD) : iprop(∃ f : Buf (Elt F) ((c : Thread nD τ).loc b), ((c : Thread nD τ).loc b) ↦[((View.whole b).slice (r p)).set]{fullShare} f)
      = (iprop(∃ f : Buf (Elt F) ((c : Thread nD τ).loc b), ((c : Thread nD τ).loc b) ↦[(r p).set]{fullShare} f) : sProp 𝕄) := by
    rw [View.set_slice_whole]
  rw [bigSep_congr fun p _ => e p]
  have : Nonempty (Buf (Elt F) ((c : Thread nD τ).loc b)) := ⟨f₀⟩
  refine (bigSep_exists_pi Finset.univ (fun p (f : Buf (Elt F) ((c : Thread nD τ).loc b)) => (((c : Thread nD τ).loc b) ↦[(r p).set]{fullShare} f : sProp 𝕄))).trans ?_
  iintro ⟨%fs, H⟩
  ihave H := (pointsTo_biUnion_join Finset.univ (fun p => (r p).set) fs f₀ (fun p _ p' _ h => hd p p' h)) $$ H
  icases H with ⟨%g, -, H⟩
  iexists g
  rw [hc]
  iexact H

end

/-! ## The slots are apart and cover their buffer -/

theorem slot_disjoint (p p' : Dev nD) (h : p ≠ p') : Disjoint (slotR p).set (slotR p').set :=
  lead_disjoint (s := S16x256x128) (0 : Fin 3) 1 (fun p : Dev nD => ![p.val, 0, 0]) S1x256x128.size slot_inb (fun b => (Nat.one_mul _).symm) rfl p p' h
theorem slot_cover : Finset.univ.biUnion (fun p => (slotR p).set) = Finset.univ :=
  lead_cover (s := S16x256x128) (0 : Fin 3) 1 (fun p : Dev nD => ![p.val, 0, 0]) S1x256x128.size slot_inb (fun b => (Nat.one_mul _).symm)
    (fun b a ha => by fin_cases a; · exact absurd rfl ha
                      · rfl
                      · rfl) rfl
    (fun a ha => by fin_cases a; · exact absurd rfl ha
                    · rfl
                    · rfl) rfl
theorem row_disjoint (p p' : Dev nD) (h : p ≠ p') : Disjoint (rowR p).set (rowR p').set :=
  lead_disjoint (s := S16x1x128) (0 : Fin 3) 1 (fun p : Dev nD => ![p.val, 0, 0]) S1x1x128.size row_inb (fun b => (Nat.one_mul _).symm) rfl p p' h
theorem row_cover : Finset.univ.biUnion (fun p => (rowR p).set) = Finset.univ :=
  lead_cover (s := S16x1x128) (0 : Fin 3) 1 (fun p : Dev nD => ![p.val, 0, 0]) S1x1x128.size row_inb (fun b => (Nat.one_mul _).symm)
    (fun b a ha => by fin_cases a; · exact absurd rfl ha
                      · rfl
                      · rfl) rfl
    (fun a ha => by fin_cases a; · exact absurd rfl ha
                    · rfl
                    · rfl) rfl
theorem out_disjoint (p p' : Dev nD) (h : p ≠ p') : Disjoint (outR p).set (outR p').set :=
  lead_disjoint (s := S4096x128) (0 : Fin 2) 256 (fun p : Dev nD => ![256 * p.val, 0]) S256x128.size out_inb (fun b => rfl) rfl p p' h
theorem out_cover : Finset.univ.biUnion (fun p => (outR p).set) = Finset.univ :=
  lead_cover (s := S4096x128) (0 : Fin 2) 256 (fun p : Dev nD => ![256 * p.val, 0]) S256x128.size out_inb (fun b => rfl)
    (fun b a ha => by fin_cases a; · exact absurd rfl ha
                      · rfl) rfl
    (fun a ha => by fin_cases a; · exact absurd rfl ha
                    · rfl) rfl

/-! ## The kernel's buffers -/

variable (m : (ℓ : Loc nD τ sig) → Buf (Elt F) ℓ) (c : Dev nD)
include m

omit m in
theorem sBuf_split (f : Buf (Elt F) ((c : Thread nD τ).loc cc0_scratch0)) :
    (((c : Thread nD τ).loc cc0_scratch0) ↦{fullShare} f : sProp 𝕄) ⊢ bigSep Finset.univ fun j => held c (sSlot j) := by
  refine (parts_split c cc0_scratch0 slotR slot_disjoint slot_cover f).trans (bigSep_mono fun p _ => ?_)
  show (_ : sProp 𝕄) ⊢ _
  unfold held; iintro H; iexists f; iexact H
omit m in
theorem rBuf_split (f : Buf (Elt F) ((c : Thread nD τ).loc cc0_scratch1)) :
    (((c : Thread nD τ).loc cc0_scratch1) ↦{fullShare} f : sProp 𝕄) ⊢ bigSep Finset.univ fun j => held c (rSlot j) := by
  refine (parts_split c cc0_scratch1 slotR slot_disjoint slot_cover f).trans (bigSep_mono fun p _ => ?_)
  show (_ : sProp 𝕄) ⊢ _
  unfold held; iintro H; iexists f; iexact H
omit m in
theorem gBuf_split (f : Buf (Elt F) ((c : Thread nD τ).loc cc0_scratch3)) :
    (((c : Thread nD τ).loc cc0_scratch3) ↦{fullShare} f : sProp 𝕄) ⊢ bigSep Finset.univ fun j => held c (gSlot j) := by
  refine (parts_split c cc0_scratch3 rowR row_disjoint row_cover f).trans (bigSep_mono fun p _ => ?_)
  show (_ : sProp 𝕄) ⊢ _
  unfold held; iintro H; iexists f; iexact H
omit m in
theorem oBuf_split (f : Buf (Elt F) ((c : Thread nD τ).loc cc0_stg2_0)) :
    (((c : Thread nD τ).loc cc0_stg2_0) ↦{fullShare} f : sProp 𝕄) ⊢ bigSep Finset.univ fun j => held c (oSlot j) := by
  refine (parts_split c cc0_stg2_0 outR out_disjoint out_cover f).trans (bigSep_mono fun p _ => ?_)
  show (_ : sProp 𝕄) ⊢ _
  unfold held; iintro H; iexists f; iexact H

theorem sBuf_join : (bigSep Finset.univ fun j => held c (sSlot j))
    ⊢ (iprop(∃ f, ((c : Thread nD τ).loc cc0_scratch0) ↦{fullShare} f) : sProp 𝕄) :=
  parts_join_any c cc0_scratch0 slotR slot_disjoint slot_cover (m _)
theorem rBuf_join : (bigSep Finset.univ fun j => held c (rSlot j))
    ⊢ (iprop(∃ f, ((c : Thread nD τ).loc cc0_scratch1) ↦{fullShare} f) : sProp 𝕄) :=
  parts_join_any c cc0_scratch1 slotR slot_disjoint slot_cover (m _)

/-- The sixteen received largest entries, read together. -/
theorem gBuf_join : (bigSep Finset.univ fun j => owns (c : Thread nD τ) (gSlot j) fullShare (slotRowOf (top m j)))
    ⊢ (iprop(∃ g, ⌜gM.view.readAt (Elt F) (Rect.unit (s := S16x1x128) ![0, 0, 0] S16x1x1.size inb_S16x1x128_S16x1x1_0_0_0).toLoadRect g = tops m⌝
        ∗ (((c : Thread nD τ).loc cc0_scratch3) ↦{fullShare} g)) : sProp 𝕄) := by
  refine (parts_join c cc0_scratch3 rowR row_disjoint row_cover (m _) (fun p => slotRowOf (top m p))).trans ?_
  iintro ⟨%g, %hg, H⟩
  iexists g
  isplitr
  · ipureintro
    funext i
    have := congrFun (hg (i 0)) (ValueIdx.ix3 ⟨0, by decide⟩ ⟨0, by decide⟩ ⟨0, by decide⟩)
    refine Eq.trans ?_ this
    refine congrArg g (funext fun a => Fin.ext ?_)
    have h1 : (i 1).val < 1 := (i 1).isLt
    have h2 : (i 2).val < 1 := (i 2).isLt
    fin_cases a
    · show 0 + 1 * (i 0).val = (i 0).val + 1 * 0; omega
    · show 0 + 1 * (i 1).val = 0 + 1 * 0; omega
    · show 0 + 1 * (i 2).val = 0 + 1 * 0; omega
  iexact H

/-- The result's rows, together. -/
theorem oBuf_join : (bigSep Finset.univ fun j => owns (c : Thread nD τ) (oSlot j) fullShare (outBlk m c j))
    ⊢ (((c : Thread nD τ).loc cc0_stg2_0) ↦{fullShare} outAt m c : sProp 𝕄) := by
  refine (parts_join c cc0_stg2_0 outR out_disjoint out_cover (outAt m c) (fun p => outBlk m c p)).trans ?_
  iintro ⟨%g, %hg, H⟩
  have e : g = outAt m c := by
    funext i
    have h0 : (i 0).val < 4096 := (i 0).isLt
    have := congrFun (hg ⟨(i 0).val / 256, Nat.div_lt_of_lt_mul h0⟩)
      (ValueIdx.ix2 ⟨(i 0).val % 256, Nat.mod_lt _ (by decide)⟩ ⟨(i 1).val, (i 1).isLt⟩)
    refine Eq.trans ?_ this
    refine congrArg g (funext fun a => Fin.ext ?_)
    fin_cases a
    · show (i 0).val = 256 * ((i 0).val / 256) + 1 * ((i 0).val % 256); omega
    · show (i 1).val = 0 + 1 * (i 1).val; omega
  rw [e]
  iexact H

/-- The largest entry's buffer is lent in sixteenths, and comes back from them. -/
theorem aBuf_split : (((c : Thread nD τ).loc cc0_scratch2) ↦{fullShare} (rowOf (top m c) : Vec F S1x128 .f32) : sProp 𝕄)
    ⊢ iprop((((c : Thread nD τ).loc cc0_scratch2) ↦{shareDrop fullShare 16} (rowOf (top m c) : Vec F S1x128 .f32)) ∗ bigSep Finset.univ fun j => lent m c j) := by
  refine (Transfers.pointsTo_toks_split fullShare 16).trans (sep_mono_right (Entails.of_eq (bigSep_congr fun j _ => ?_)))
  unfold lent; rw [View.set_whole]
theorem aBuf_join : iprop((((c : Thread nD τ).loc cc0_scratch2) ↦{shareDrop fullShare 16} (rowOf (top m c) : Vec F S1x128 .f32)) ∗ bigSep Finset.univ fun j => lent m c j)
    ⊢ (((c : Thread nD τ).loc cc0_scratch2) ↦{fullShare} (rowOf (top m c) : Vec F S1x128 .f32) : sProp 𝕄) := by
  refine (sep_mono_right (Entails.of_eq (bigSep_congr fun j _ => ?_))).trans (Transfers.pointsTo_toks_join fullShare 16)
  unfold lent; rw [View.set_whole]

end Cert.KernelIdeal.Own

end
-- ==== Proof.Ops.lean ====
/- One rule for each kind of operation the kernel does on a slot or a cell. -/
module

public import proofs.«01_k».proof.Proof.Protocol

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

abbrev 𝒱₀ : Variants := Variants.none

/-- Running a program of device `c`, to what holds at its end. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable {α : Type}

/-! ## Loads and stores -/

section
variable (c : Dev nD) {s : Shape} {e : EltTy} (M : Memref sig .tc .vmem s e) {off off' size : Fin s.rank → ℕ}
  (h : off = off') (inb : ∀ a, off a + size a ≤ s.size a) (inb' : ∀ a, off' a + size a ≤ s.size a)
include h

/-- A part that is owned is read at what it holds. -/
theorem load_owned {q : PosShare TreeShare} {X : (⟨s.rank, size⟩ : Shape).Idx → Elt F e}
    {hl : M.view.LoadsAt (Rect.unit (s := s) off size inb).toLoadRect} {k : ((⟨s.rank, size⟩ : Shape).Idx → Elt F e) → Prog (TpuEff nD τ sig (Elt F) Λ₀ .tc) α} {Q : α → sProp 𝕄} :
    (owns (c : Thread nD τ) (M.slice (Rect.unit (s := s) off' size inb') (fun _ => rfl)) q X : sProp 𝕄)
      ⊢ iprop((owns (c : Thread nD τ) (M.slice (Rect.unit (s := s) off' size inb') (fun _ => rfl)) q X -∗ run c (k X) Q)
        -∗ run c (.op (.load M (Rect.unit (s := s) off size inb).toLoadRect hl) k) Q) := by
  subst h
  unfold owns
  iintro ⟨%f, %hf, H⟩ Hk
  iapply (wp_load_rect 𝒱₀ (c : Thread nD τ) none Set.univ (m := M) (r := Rect.unit (s := s) off size inb)
    (S := (M.view.slice (Rect.unit (s := s) off size inb)).set) (f := f) (Finset.Subset.refl _)) $$ H
  iintro H
  rw [show (M.access (Rect.unit (s := s) off size inb)).read (Elt F) f = X from hf]
  iapply Hk
  iexists f
  isplitr; · ipureintro; exact hf
  iexact H

/-- A part held at contents not said is read at something, -/
theorem load_held {hl : M.view.LoadsAt (Rect.unit (s := s) off size inb).toLoadRect} {k : ((⟨s.rank, size⟩ : Shape).Idx → Elt F e) → Prog (TpuEff nD τ sig (Elt F) Λ₀ .tc) α} {Q : α → sProp 𝕄} :
    (held c (M.slice (Rect.unit (s := s) off' size inb') (fun _ => rfl)) : sProp 𝕄)
      ⊢ iprop((∀ X, held c (M.slice (Rect.unit (s := s) off' size inb') (fun _ => rfl)) -∗ run c (k X) Q)
        -∗ run c (.op (.load M (Rect.unit (s := s) off size inb).toLoadRect hl) k) Q) := by
  subst h
  unfold held
  iintro ⟨%f, H⟩ Hk
  iapply (wp_load_rect 𝒱₀ (c : Thread nD τ) none Set.univ (m := M) (r := Rect.unit (s := s) off size inb)
    (S := (M.view.slice (Rect.unit (s := s) off size inb)).set) (f := f) (Finset.Subset.refl _)) $$ H
  iintro H
  iapply Hk
  iexists f
  iexact H

/-- and written whole. -/
theorem store_held {w : (⟨s.rank, size⟩ : Shape).Idx → Elt F e} {hx : (M.access (Rect.unit (s := s) off size inb)).Stores Finset.univ}
    {hm : (Finset.univ : Finset (Rect.unit (s := s) off size inb).shape.Idx) = Finset.univ ∨ ∀ a, (Rect.unit (s := s) off size inb).stride a = 1}
    {k : PUnit → Prog (TpuEff nD τ sig (Elt F) Λ₀ .tc) α} {Q : α → sProp 𝕄} :
    (held c (M.slice (Rect.unit (s := s) off' size inb') (fun _ => rfl)) : sProp 𝕄)
      ⊢ iprop((owns (c : Thread nD τ) (M.slice (Rect.unit (s := s) off' size inb') (fun _ => rfl)) fullShare w -∗ run c (k ⟨⟩) Q)
        -∗ run c (.op (.store M (Rect.unit (s := s) off size inb) w Finset.univ hx hm) k) Q) := by
  subst h
  unfold held owns
  iintro ⟨%f, H⟩ Hk
  iapply (wp_store 𝒱₀ (c : Thread nD τ) none Set.univ (m := M) (r := Rect.unit (s := s) off size inb) (Mk := Finset.univ)
    (S := (M.view.slice (Rect.unit (s := s) off size inb)).set) (f := f) (Finset.Subset.refl _)) $$ H
  iintro H
  iapply Hk
  iexists _
  isplitr
  · ipureintro; exact View.read_write_univ (v := M.view.slice (Rect.unit (s := s) off size inb)) f w
  iexact H

end

theorem held_of_owns (c : Dev nD) {s : Shape} {e : EltTy} (M : Memref sig .tc .vmem s e) (X : s.Idx → Elt F e) :
    (owns (c : Thread nD τ) M fullShare X : sProp 𝕄) ⊢ held c M := by
  unfold owns held
  iintro ⟨%f, -, H⟩
  iexists f; iexact H

/-! ## The cells' records -/

variable (m : (ℓ : Loc nD τ sig) → Buf (Elt F) ℓ)
variable (K : Dev nD × CIx → ℕ)

/-- Every cell's rules hold under its name, and its round has begun; the waits' order is agreed. -/
def ctx : sProp 𝕄 :=
  iprop(bigSep Finset.univ (fun ci : Dev nD × CIx => iprop(cellInv ER (Rd m) (K ci) (cell ci.1 ci.2) ∗ reached ER (cell ci.1 ci.2) 0)) ∗ levAts L lv)

instance ctx_persistent : BI.Persistent (ctx m K) := by unfold ctx; infer_instance

theorem ctx_cell (c : Dev nD) (i : CIx) : ctx m K ⊢ (iprop(cellInv ER (Rd m) (K (c, i)) (cell c i) ∗ reached ER (cell c i) 0) : sProp 𝕄) := by
  unfold ctx
  rw [bigSep_univ_at _ (c, i)]
  iintro ⟨⟨H, -⟩, -⟩
  iexact H
theorem ctx_lev : ctx m K ⊢ (levAts L lv : sProp 𝕄) := by
  unfold ctx; iintro ⟨-, H⟩; iexact H

/-! ## Signals, copies, waits -/

/-- The signal to the peer of step `t` hands it this device's slots for it. -/
theorem signal_peer (c : Dev nD) (t : Fin 15) (n : Dev nD) (hn : n = peer c t) (O : CellTallies nD τ sig Unit) (W : Waits sig Unit)
    {k : PUnit → Prog (TpuEff nD τ sig (Elt F) Λ₀ .tc) α} {Q : α → sProp 𝕄} :
    iprop(ctx m K ∗ owes (c : Thread nD τ) (O + gSig c t) W ∗ dutyTok ER (cell (peer c t) none) 0 t
        ∗ held c (rSlot (peer c t)) ∗ held c (gSlot (peer c t)))
      ⊢ iprop((owes (c : Thread nD τ) O W -∗ run c (k ⟨⟩) Q)
          -∗ run c (.op (.semSignal (n : Thread nD τ) barS (1#32 : BitVec 32).toNat) k) Q) := by
  subst hn
  iintro ⟨#Hc, HO, Ht, Hr, Hg⟩ Hk
  ihave #Hi := (ctx_cell m K (peer c t) none) $$ Hc
  icases Hi with ⟨#Hinv, #Hre⟩
  iapply (Rounds.wp_signal 𝒱₀ ER (Rd m) (c : Thread nD τ) none (dst := (peer c t : Thread nD τ)) (κ := K (peer c t, none))
      (d := t) (r := 0) (by rw [show ((peer c t : Thread nD τ), SemLoc.reg barS) = cell (peer c t) none from rfl, duties_cell]; exact Finset.mem_univ _)
      ((amount_cell m (peer c t) none t).trans (by decide)) () O (by rfl)) $$ [HO Ht Hr Hg]
  · isplitr; · iexact Hinv
    isplitl [HO]; · iexact HO
    isplitl [Ht]; · iexact Ht
    isplitl [Hr Hg]
    · rw [show ((peer c t : Thread nD τ), SemLoc.reg barS) = cell (peer c t) none from rfl, payload_cell]
      unfold pay barPay; dsimp only [Option.elim]; rw [from_peer]
      isplitl [Hr]; · iexact Hr
      iexact Hg
    iexact Hre
  iexact Hk

set_option maxRecDepth 8000 in
/-- Waiting at the barrier gives, for every peer, the slots there for this device. -/
theorem wait_bar (c : Dev nD) (W : Waits sig Unit) {k : PUnit → Prog (TpuEff nD τ sig (Elt F) Λ₀ .tc) α} {Q : α → sProp 𝕄} :
    iprop(ctx m K ∗ cred (tallyAt (cell c none) () 15) ∗ owes (c : Thread nD τ) (O₁ c) W ∗ atPos ER (cell c none) 0 ∅ 0)
      ⊢ iprop((((∃ W, owes (c : Thread nD τ) (O₁ c) W) ∗ semVal (cell c none) 0
              ∗ bigSep Finset.univ fun t : Fin 15 => iprop(held (peer c t) (rSlot c) ∗ held (peer c t) (gSlot c))) -∗ run c (k ⟨⟩) Q)
          -∗ run c (.op (.semWait barS (15#32 : BitVec 32).toNat) k) Q) := by
  iintro ⟨#Hc, Hcr, HO, Hat⟩ Hk
  ihave #Hi := (ctx_cell m K c none) $$ Hc
  icases Hi with ⟨#Hinv, #Hre⟩
  ihave #Hl := (ctx_lev m K) $$ Hc
  iapply (Rounds.wp_wait_rest_token 𝒱₀ ER (Rd m) (c : Thread nD τ) none (κ := K (c, none))
      (wpE_semWait_eq 𝒱₀ (c : Thread nD τ) none Set.univ) (Set.mem_univ _) () (O := O₁ c) (W := W) (R := 0) (m := 0) (T := ∅)
      ((Nat.zero_add _).trans (expect_bar m c).symm)) $$ [Hcr HO Hat]
  · isplitr; · iexact Hinv
    isplitl [Hcr]; · iexact Hcr
    isplitl [HO]; · iexact HO
    isplitr; · iapply (mayWait_bar c); iexact Hl
    iexact Hat
  iintro ⟨HO, Hat, -, Hpay⟩
  imod (Rounds.cell_close ER (Rd m) (Set.mem_univ (K (c, none))) (fun h => h) (R := 0 + 1) (duties_later m (cell c none))) $$ [Hat] with Hz
  · isplitr; · iexact Hinv
    iexact Hat
  iapply Hk
  isplitl [HO]; · iexists _; iexact HO
  isplitl [Hz]; · iexact Hz
  ihave Hp := (Entails.of_eq (show bigSep ((Rd m).duties ((c : Thread nD τ), SemLoc.reg barS) 0 \ ∅) (fun d => (Rd m).payload ((c : Thread nD τ), SemLoc.reg barS) 0 d) = _ from rest_bar m c)) $$ Hpay
  rw [← bigSep_rev c (fun p => iprop(held p (rSlot c) ∗ held p (gSlot c)))]
  iexact Hp

/-- Waiting for a copy gives what its cell hands over, and the cell back at zero. -/
theorem wait_dma (c : Dev nD) (k : Fin 4) (j : Dev nD) (hj : j ≠ c) (W : Waits sig Unit) {sem : DmaSem sig} (hsem : sem = dsem k j)
    {s s' : Shape} {e e' : EltTy} {src : Memref sig .tc .vmem s' e'} {dst : Memref sig .tc .vmem s e} {hsrc : src.view.WordExact} {hdst : dst.view.WordExact}
    (hN : dst.view.dmaCredit = amt (some (k, j)))
    {f : PUnit → Prog (TpuEff nD τ sig (Elt F) Λ₀ .tc) α} {Q : α → sProp 𝕄} :
    iprop(ctx m K ∗ cred (tallyAt (cell c (some (k, j))) () (amt (some (k, j)))) ∗ owes (c : Thread nD τ) 0 W ∗ atPos ER (cell c (some (k, j))) 0 ∅ 0)
      ⊢ iprop((((∃ W, owes (c : Thread nD τ) 0 W) ∗ semVal (cell c (some (k, j))) 0 ∗ dmaPay m c k j) -∗ run c (f ⟨⟩) Q)
          -∗ run c (.op (.waitDma2 sem src dst hsrc hdst) f) Q) := by
  subst hsem
  rw [← hN]
  iintro ⟨#Hc, Hcr, HO, Hat⟩ Hk
  ihave #Hi := (ctx_cell m K c (some (k, j))) $$ Hc
  icases Hi with ⟨#Hinv, #Hre⟩
  iapply (Rounds.wp_wait_rest_token 𝒱₀ ER (Rd m) (c : Thread nD τ) none (κ := K (c, some (k, j))) (sm := .dma (dsem k j))
      (wpE_waitDma2_eq 𝒱₀ (c : Thread nD τ) none Set.univ) (Set.mem_univ _) () (O := 0) (W := W) (R := 0) (m := 0) (T := ∅)
      (by rw [Nat.zero_add, show ((c : Thread nD τ), SemLoc.dma (dsem k j)) = cell c (some (k, j)) from rfl, expect_dma m c k j hj]; exact hN)) $$ [Hcr HO Hat]
  · isplitr; · iexact Hinv
    isplitl [Hcr]; · iexact Hcr
    isplitl [HO]; · iexact HO
    isplitr; · rw [MayWait_zero]; iempintro
    iexact Hat
  iintro ⟨HO, Hat, -, Hpay⟩
  imod (Rounds.cell_close ER (Rd m) (Set.mem_univ (K (c, some (k, j)))) (fun h => h) (R := 0 + 1) (duties_later m (cell c (some (k, j))))) $$ [Hat] with Hz
  · isplitr; · iexact Hinv
    iexact Hat
  iapply Hk
  isplitl [HO]; · iexists _; iexact HO
  isplitl [Hz]; · iexact Hz
  ihave Hp := (Entails.of_eq (show bigSep ((Rd m).duties ((c : Thread nD τ), SemLoc.dma (dsem k j)) 0 \ ∅)
    (fun d => (Rd m).payload ((c : Thread nD τ), SemLoc.dma (dsem k j)) 0 d) = _ from rest_dma m c k j hj)) $$ Hpay
  iexact Hp

/-- What is written through one reshaped view from another reads, unreshaped, as the source does unreshaped. -/
theorem read_write_reshape {s s' : Shape} {e : EltTy} {sp sp' : Space} (v : View sig .tc sp s e) (v' : View sig .tc sp' s e) (h : s'.numel = s.numel)
    (f : v.ty.Contents (Elt F)) (g : v'.ty.Contents (Elt F)) :
    v'.read (Elt F) ((v'.reshape s' h).write (Elt F) g ((v.reshape s' h).read (Elt F) f) Finset.univ) = v.read (Elt F) f := by
  funext x
  obtain ⟨y, rfl⟩ := (Shape.reshapeEquiv h).surjective x
  exact congrFun (View.read_write_univ (v := v'.reshape s' h) g ((v.reshape s' h).read (Elt F) f)) y

set_option maxHeartbeats 1000000 in
/-- The copy of a block to the peer of step `t`. -/
theorem send_blk (c : Dev nD) (t : Fin 15) (n : Dev nD) (hn : n = peer c t) (O : CellTallies nD τ sig Unit) (W : Waits sig Unit)
    {sS sR : DmaSem sig} (hsS : sS = dsem 0 (peer c t)) (hsR : sR = dsem 1 c)
    {offS offD : Fin 3 → ℕ} (hoS : offS = ![(peer c t).val, 0, 0]) (hoD : offD = ![c.val, 0, 0])
    {inbS : ∀ a, offS a + S1x256x128.size a ≤ S16x256x128.size a} {inbD : ∀ a, offD a + S1x256x128.size a ≤ S16x256x128.size a}
    {hsc : (((rM.slice (Rect.unit (s := S16x256x128) offD S1x256x128.size inbD) (fun _ => rfl)).squeeze S256x128 squeezes_S1x256x128_S256x128)
      : Memref sig (Dev.tc n : Thread nD τ).2.kind .vmem S256x128 .bf16).view.ref.isScScratch = false}
    {hsrc : ((sM.slice (Rect.unit (s := S16x256x128) offS S1x256x128.size inbS) (fun _ => rfl)).squeeze S256x128 squeezes_S1x256x128_S256x128).view.WordExact}
    {hdst : ((rM.slice (Rect.unit (s := S16x256x128) offD S1x256x128.size inbD) (fun _ => rfl)).squeeze S256x128 squeezes_S1x256x128_S256x128).view.WordExact}
    {hsem : DmaTarget.Typed .vmem (.dma sR) (.remote (Dev.tc n : Thread nD τ)
      ((rM.slice (Rect.unit (s := S16x256x128) offD S1x256x128.size inbD) (fun _ => rfl)).squeeze S256x128 squeezes_S1x256x128_S256x128) (.dma sS) hsc)}
    {k : PUnit → Prog (TpuEff nD τ sig (Elt F) Λ₀ .tc) α} {Q : α → sProp 𝕄} :
    iprop(ctx m K ∗ owns (c : Thread nD τ) (sSlot (peer c t)) fullShare (sent m c (peer c t)) ∗ held (peer c t) (rSlot c)
        ∗ owes (c : Thread nD τ) (O + gBlk c t) W
        ∗ dutyTok ER (cell c (some (0, peer c t))) 0 0 ∗ dutyTok ER (cell (peer c t) (some (1, c))) 0 0)
      ⊢ iprop(((cred (tallyAt (cell c (some (0, peer c t))) () (amt (some (0, peer c t)))) ∗ owes (c : Thread nD τ) O W) -∗ run c (k ⟨⟩) Q)
          -∗ run c (.op (.enqueueDma ((sM.slice (Rect.unit (s := S16x256x128) offS S1x256x128.size inbS) (fun _ => rfl)).squeeze S256x128 squeezes_S1x256x128_S256x128)
              (.remote (Dev.tc n : Thread nD τ) ((rM.slice (Rect.unit (s := S16x256x128) offD S1x256x128.size inbD) (fun _ => rfl)).squeeze S256x128 squeezes_S1x256x128_S256x128)
                (.dma sS) hsc) (.dma sR) hsrc hdst hsem) k) Q) := by
  subst hn hsS hsR hoS hoD
  unfold owns held
  iintro ⟨#Hc, ⟨%fs, %hfs, Hs⟩, ⟨%fd, Hd⟩, HO, HtS, HtR⟩ Hk
  ihave #Hi := (ctx_cell m K c (some (0, peer c t))) $$ Hc
  icases Hi with ⟨#HiS, #HrS⟩
  ihave #Hi := (ctx_cell m K (peer c t) (some (1, c))) $$ Hc
  icases Hi with ⟨#HiR, #HrR⟩
  have hset (b : Dev nD) (M : Memref sig .tc .vmem S1x256x128 .bf16) : (M.squeeze S256x128 squeezes_S1x256x128_S256x128).view.set = M.view.set := View.set_reshape _ _
  iapply (Rounds.wp_send_pointsTo 𝒱₀ ER (Rd m) (c : Thread nD τ) none (κ₁ := K (c, some (0, peer c t))) (κ₂ := K (peer c t, some (1, c)))
    (c' := (peer c t : Thread nD τ)) (src := (sSlot (peer c t)).squeeze S256x128 squeezes_S1x256x128_S256x128) (dst := (rSlot c).squeeze S256x128 squeezes_S1x256x128_S256x128)
    (sS := .dma (dsem 0 (peer c t))) (sem := .dma (dsem 1 c)) (fs := fs) (q := fullShare)
    (r₁ := 0) (r₂ := 0) (d₁ := 0) (d₂ := 0) (fd := fd)
    (mem_duties m c 0 (peer c t) (peer_ne c t)) (mem_duties m (peer c t) 1 c (peer_ne c t).symm)
    () () N₁ rfl (amount_cell m c (some (0, peer c t)) 0) (amount_cell m (peer c t) (some (1, c)) 0) O rfl (W := W)
    (by
      rw [show ((c : Thread nD τ), SemLoc.dma (dsem 0 (peer c t))) = cell c (some (0, peer c t)) from rfl, payload_cell]
      unfold pay dmaPay held; dsimp only [Option.elim]; rw [if_pos rfl, View.set_reshape]
      iintro H; iexists fs; iexact H)
    (by
      rw [show ((peer c t : Thread nD τ), SemLoc.dma (dsem 1 c)) = cell (peer c t) (some (1, c)) from rfl, payload_cell]
      unfold pay dmaPay owns; dsimp only [Option.elim]; rw [if_neg (by decide), if_pos rfl, View.set_reshape]
      iintro H; iexists _
      isplitr; swap
      · iexact H
      ipureintro
      exact (read_write_reshape (sSlot (peer c t)).view (rSlot c).view _ fs fd).trans hfs)) $$ [Hs Hd HO HtS HtR]
  · isplitr; · iexact HiS
    isplitr; · iexact HiR
    isplitl [Hs]; · rw [hset c]; iexact Hs
    isplitl [Hd]; · rw [hset c]; iexact Hd
    isplitl [HO]; · iexact HO
    isplitl [HtS]; · iexact HtS
    isplitr; · iexact HrS
    isplitl [HtR]; · iexact HtR
    iexact HrR
  iexact Hk

set_option maxHeartbeats 1000000 in
/-- The copy of the largest entry to the peer of step `t`. -/
theorem send_max (c : Dev nD) (t : Fin 15) (n : Dev nD) (hn : n = peer c t) (O : CellTallies nD τ sig Unit) (W : Waits sig Unit)
    {sS sR : DmaSem sig} (hsS : sS = dsem 2 (peer c t)) (hsR : sR = dsem 3 c)
    {offD : Fin 3 → ℕ} (hoD : offD = ![c.val, 0, 0]) {inbD : ∀ a, offD a + S1x1x128.size a ≤ S16x1x128.size a}
    {hsc : (((gM.slice (Rect.unit (s := S16x1x128) offD S1x1x128.size inbD) (fun _ => rfl)).squeeze S1x128 squeezes_S1x1x128_S1x128)
      : Memref sig (Dev.tc n : Thread nD τ).2.kind .vmem S1x128 .f32).view.ref.isScScratch = false}
    {hsrc : aM.view.WordExact}
    {hdst : ((gM.slice (Rect.unit (s := S16x1x128) offD S1x1x128.size inbD) (fun _ => rfl)).squeeze S1x128 squeezes_S1x1x128_S1x128).view.WordExact}
    {hsem : DmaTarget.Typed .vmem (.dma sR) (.remote (Dev.tc n : Thread nD τ)
      ((gM.slice (Rect.unit (s := S16x1x128) offD S1x1x128.size inbD) (fun _ => rfl)).squeeze S1x128 squeezes_S1x1x128_S1x128) (.dma sS) hsc)}
    {k : PUnit → Prog (TpuEff nD τ sig (Elt F) Λ₀ .tc) α} {Q : α → sProp 𝕄} :
    iprop(ctx m K ∗ lent m c (peer c t) ∗ held (peer c t) (gSlot c)
        ∗ owes (c : Thread nD τ) (O + gMax c t) W
        ∗ dutyTok ER (cell c (some (2, peer c t))) 0 0 ∗ dutyTok ER (cell (peer c t) (some (3, c))) 0 0)
      ⊢ iprop(((cred (tallyAt (cell c (some (2, peer c t))) () (amt (some (2, peer c t)))) ∗ owes (c : Thread nD τ) O W) -∗ run c (k ⟨⟩) Q)
          -∗ run c (.op (.enqueueDma aM
              (.remote (Dev.tc n : Thread nD τ) ((gM.slice (Rect.unit (s := S16x1x128) offD S1x1x128.size inbD) (fun _ => rfl)).squeeze S1x128 squeezes_S1x1x128_S1x128)
                (.dma sS) hsc) (.dma sR) hsrc hdst hsem) k) Q) := by
  subst hn hsS hsR hoD
  unfold lent held
  iintro ⟨#Hc, Hs, ⟨%fd, Hd⟩, HO, HtS, HtR⟩ Hk
  ihave #Hi := (ctx_cell m K c (some (2, peer c t))) $$ Hc
  icases Hi with ⟨#HiS, #HrS⟩
  ihave #Hi := (ctx_cell m K (peer c t) (some (3, c))) $$ Hc
  icases Hi with ⟨#HiR, #HrR⟩
  have hset : ((gSlot c).squeeze S1x128 squeezes_S1x1x128_S1x128).view.set = (gSlot c).view.set := View.set_reshape _ _
  iapply (Rounds.wp_send_pointsTo 𝒱₀ ER (Rd m) (c : Thread nD τ) none (κ₁ := K (c, some (2, peer c t))) (κ₂ := K (peer c t, some (3, c)))
    (c' := (peer c t : Thread nD τ)) (src := aM) (dst := (gSlot c).squeeze S1x128 squeezes_S1x1x128_S1x128)
    (sS := .dma (dsem 2 (peer c t))) (sem := .dma (dsem 3 c)) (fs := (rowOf (top m c) : Vec F S1x128 .f32)) (q := shareTok fullShare 16 (peer c t))
    (r₁ := 0) (r₂ := 0) (d₁ := 0) (d₂ := 0) (fd := fd)
    (mem_duties m c 2 (peer c t) (peer_ne c t)) (mem_duties m (peer c t) 3 c (peer_ne c t).symm)
    () () N₂ rfl (amount_cell m c (some (2, peer c t)) 0) (amount_cell m (peer c t) (some (3, c)) 0) O rfl (W := W)
    (by
      rw [show ((c : Thread nD τ), SemLoc.dma (dsem 2 (peer c t))) = cell c (some (2, peer c t)) from rfl, payload_cell]
      unfold pay dmaPay lent; dsimp only [Option.elim]; rw [if_neg (by decide), if_neg (by decide), if_pos rfl])
    (by
      rw [show ((peer c t : Thread nD τ), SemLoc.dma (dsem 3 c)) = cell (peer c t) (some (3, c)) from rfl, payload_cell]
      unfold pay dmaPay owns; dsimp only [Option.elim]; rw [if_neg (by decide), if_neg (by decide), if_neg (by decide), View.set_reshape]
      iintro H; iexists _
      isplitr
      · ipureintro
        funext x
        obtain ⟨y, rfl⟩ := (Shape.reshapeEquiv squeezes_S1x1x128_S1x128.numel_eq).surjective x
        exact congrFun (View.read_write_univ (v := ((gSlot c).squeeze S1x128 squeezes_S1x1x128_S1x128).view) fd _) y
      iexact H)) $$ [Hs Hd HO HtS HtR]
  · isplitr; · iexact HiS
    isplitr; · iexact HiR
    isplitl [Hs]; · iexact Hs
    isplitl [Hd]; · rw [hset]; iexact Hd
    isplitl [HO]; · iexact HO
    isplitl [HtS]; · iexact HtS
    isplitr; · iexact HrS
    isplitl [HtR]; · iexact HtR
    iexact HrR
  iexact Hk

end Cert.KernelIdeal.Own

end
-- ==== Proof.Steps.lean ====
/- Each step of each loop: what it needs, and what it leaves. -/
module

public import proofs.«01_k».proof.Proof.Slots
public import proofs.«01_k».proof.Proof.Ops

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-! ## Where a step reads and writes, and whom it addresses -/

theorem devSig_eq : ∀ (c : Dev nD) (t : Fin 15), devSig c t = peer c t := by decide +kernel
theorem devBlk_eq : ∀ (c : Dev nD) (t : Fin 15), devBlk c t = peer c t := by decide +kernel
theorem devMax_eq : ∀ (c : Dev nD) (t : Fin 15), devMax c t = peer c t := by decide +kernel

theorem off1_at (t : Fin 15) : k0_off1 c (BitVec.ofNat 32 t.val) = ![0, 128 * (peer c t).val] := k0_off1_eq c t.castSucc
theorem off2_at (t : Fin 15) : k0_off2 c (BitVec.ofNat 32 t.val) = ![(peer c t).val, 0, 0] := k0_off2_eq c t
theorem off3_at (t : Fin 15) : k0_off3 c (BitVec.ofNat 32 t.val) = ![(peer c t).val] := k0_off3_eq c t
theorem off6_at (t : Fin 15) : k0_off6 c (BitVec.ofNat 32 t.val) = ![(peer c t).val, 0, 0] := k0_off6_eq c t
theorem off9_at (t : Fin 15) : k0_off9 c (BitVec.ofNat 32 (1 + t.val)) = ![(peer c t).val] := k0_off9_eq c t
theorem off11_at (t : Fin 15) : k0_off11 c (BitVec.ofNat 32 (1 + t.val)) = ![(from_ c t).val] := k0_off11_eq c t
theorem off15_at (t : Fin 15) : k0_off15 c (BitVec.ofNat 32 (1 + t.val)) = ![(from_ c t).val, 0, 0] := k0_off15_eq c t
theorem off16_at (t : Fin 15) : k0_off16 c (BitVec.ofNat 32 (1 + t.val)) = ![256 * (from_ c t).val, 0] := k0_off16_eq c t

/-- A copy of a block counts a block's bytes, -/
theorem credit_blk (M : Memref sig .tc .vmem S256x128 .bf16) (k : Fin 4) (hk : k.val ≤ 1) (j : Dev nD) : M.view.dmaCredit = amt (some (k, j)) := by
  unfold amt; dsimp only; rw [if_pos hk]
/-- and a copy of a largest entry that one's. -/
theorem credit_row (M : Memref sig .tc .vmem S1x128 .f32) (k : Fin 4) (hk : ¬ k.val ≤ 1) (j : Dev nD) : M.view.dmaCredit = amt (some (k, j)) := by
  unfold amt; dsimp only; rw [if_neg hk]

/-- A program that is done. -/
theorem run_ret {α : Type} {a : α} {Q : α → sProp 𝕄} : Q a ⊢ run c (.ret a) Q := by
  show (_ : sProp 𝕄) ⊢ _
  unfold run
  rw [wp_ret]
  iintro H; imodintro; iexact H

/-- What device `c` owes with the barrier's signals past: the copies of its blocks and of its largest entry. -/
abbrev owing (O : CellTallies nD τ sig Unit) : sProp 𝕄 := iprop(∃ W, owes (c : Thread nD τ) O W)

/-- The columns' staged operand, held at its contents. -/
abbrev wHeld : sProp 𝕄 := ((c : Thread nD τ).loc cc0_stg1_0) ↦{fullShare} wstg m c
/-- The rows' staged operand, held at its contents. -/
abbrev xHeld : sProp 𝕄 := ((c : Thread nD τ).loc cc0_stg0_0) ↦{fullShare} xstg m c

/-- A load of column block `j`. -/
theorem load_col (j : Dev nD) {off : Fin 2 → ℕ} (h : off = ![0, 128 * j.val]) {inb : ∀ a, off a + S4096x128.size a ≤ S4096x2048.size a}
    {α : Type} {hl : wM.view.LoadsAt (Rect.unit (s := S4096x2048) off S4096x128.size inb).toLoadRect}
    {k : Vec F S4096x128 .bf16 → Prog (TpuEff nD τ sig (Elt F) Λ₀ .tc) α} {Q : α → sProp 𝕄} :
    wHeld m c ⊢ iprop((wHeld m c -∗ run c (k (wcol m c j)) Q)
      -∗ run c (.op (.load wM (Rect.unit (s := S4096x2048) off S4096x128.size inb).toLoadRect hl) k) Q) := by
  subst h
  iintro Hw Hk
  iapply (wp_load 𝒱₀ (c : Thread nD τ) none Set.univ (m := wM) (Finset.subset_univ _)) $$ Hw
  iintro Hw
  iapply Hk
  iexact Hw

/-! ## The entry's barrier -/

theorem sig_step (t : Fin 15) (u : PUnit) :
    iprop((ctx m K ∗ owing c (rem (gSig c) t.val + O₁ c))
        ∗ (dutyTok ER (cell (peer c t) none) 0 t ∗ held c (rSlot (peer c t)) ∗ held c (gSlot (peer c t))))
      ⊢ run c (sigStep (F := F) c t u) fun _ => iprop((ctx m K ∗ owing c (rem (gSig c) (t.val + 1) + O₁ c)) ∗ emp) := by
  simp only [sigStep, semSignalWord, Prog.lift, Prog.bind_op, Prog.bind_ret, Prog.pure_eq_ret]
  iintro ⟨⟨#HC, %W, HO⟩, Ht, Hr, Hg⟩
  rw [rem_step, add_right_comm]
  iapply (signal_peer m K c t _ (devSig_eq c t) (rem (gSig c) (t.val + 1) + O₁ c) W) $$ [HO Ht Hr Hg]
  · isplitr; · iexact HC
    isplitl [HO]; · iexact HO
    isplitl [Ht]; · iexact Ht
    isplitl [Hr]; · iexact Hr
    iexact Hg
  iintro HO
  iapply (run_ret c)
  isplitl
  · isplitr; · iexact HC
    iexists W; iexact HO
  iempintro

/-! ## The blocks, computed and sent -/

theorem blk_step (t : Fin 15) (a : F .f32) :
    iprop((ctx m K ∗ wHeld m c ∗ ⌜a = runMax m c t.val⌝ ∗ owing c (rem (gBlk c) t.val + rem (gMax c) 0))
        ∗ (held c (sSlot (peer c t)) ∗ held (peer c t) (rSlot c) ∗ dutyTok ER (cell c (some (0, peer c t))) 0 0 ∗ dutyTok ER (cell (peer c t) (some (1, c))) 0 0))
      ⊢ run c (blkStep wM sM (Memref.isWhole_whole _) rM (Memref.isWhole_whole _) cc0_scratch4 cc0_scratch5 c (xstg m c) t a)
        fun a' => iprop((ctx m K ∗ wHeld m c ∗ ⌜a' = runMax m c (t.val + 1)⌝ ∗ owing c (rem (gBlk c) (t.val + 1) + rem (gMax c) 0))
          ∗ cred (tallyAt (cell c (some (0, peer c t))) () (amt (some (0, peer c t))))) := by
  simp only [blkStep, Prog.lift, Prog.bind_op, Prog.bind_ret, Prog.pure_eq_ret]
  iintro ⟨⟨#HC, Hw, %ha, %W, HO⟩, Hs, Hr, Ht0, Ht1⟩
  iapply (load_col m c (peer c t) (off1_at c t)) $$ Hw
  iintro Hw
  iapply (load_held c sM (off2_at c t) (k0_off2_inb c t) (slot_inb (peer c t))) $$ Hs
  iintro %_ Hs
  iapply (store_held c sM (off2_at c t) (k0_off2_inb c t) (slot_inb (peer c t))) $$ Hs
  iintro Hs
  rw [rem_step, add_right_comm]
  iapply (send_blk m K c t _ (devBlk_eq c t) (rem (gBlk c) (t.val + 1) + rem (gMax c) 0) W
    (sem_at 0 (peer c t) (off3_at c t) (k0_off3_inb c t)) (sem_at 1 c (k0_off4_eq c) (k0_off4_inb c)) (off6_at c t) (k0_off5_eq c)) $$ [Hs Hr HO Ht0 Ht1]
  · isplitr; · iexact HC
    isplitl [Hs]; · iexact Hs
    isplitl [Hr]; · iexact Hr
    isplitl [HO]; · iexact HO
    isplitl [Ht0]; · iexact Ht0
    iexact Ht1
  iintro ⟨Hc, HO⟩
  iapply (run_ret c)
  isplitr [Hc]
  · isplitr; · iexact HC
    isplitl [Hw]; · iexact Hw
    isplitr; · ipureintro; rw [ha]; rfl
    iexists W; iexact HO
  iexact Hc

/-! ## The largest entries, sent and received -/

theorem max_step (t : Fin 15) (u : PUnit) :
    iprop((ctx m K ∗ owing c (rem (gMax c) t.val))
        ∗ (lent m c (peer c t) ∗ held (peer c t) (gSlot c) ∗ dutyTok ER (cell c (some (2, peer c t))) 0 0 ∗ dutyTok ER (cell (peer c t) (some (3, c))) 0 0))
      ⊢ run c (maxStep (F := F) aM (Memref.isWhole_whole _) gM cc0_scratch6 cc0_scratch7 c t u)
        fun _ => iprop((ctx m K ∗ owing c (rem (gMax c) (t.val + 1))) ∗ cred (tallyAt (cell c (some (2, peer c t))) () (amt (some (2, peer c t))))) := by
  simp only [maxStep, Prog.lift, Prog.bind_op, Prog.bind_ret, Prog.pure_eq_ret]
  iintro ⟨⟨#HC, %W, HO⟩, Ha, Hg, Ht0, Ht1⟩
  rw [rem_step]
  iapply (send_max m K c t _ (devMax_eq c t) (rem (gMax c) (t.val + 1)) W
    (sem_at 2 (peer c t) (off9_at c t) (k0_off9_inb c t)) (sem_at 3 c (k0_off4_eq c) (k0_off4_inb c)) (k0_off10_eq c)) $$ [Ha Hg HO Ht0 Ht1]
  · isplitr; · iexact HC
    isplitl [Ha]; · iexact Ha
    isplitl [Hg]; · iexact Hg
    isplitl [HO]; · iexact HO
    isplitl [Ht0]; · iexact Ht0
    iexact Ht1
  iintro ⟨Hc, HO⟩
  iapply (run_ret c)
  isplitr [Hc]
  · isplitr; · iexact HC
    iexists W; iexact HO
  iexact Hc

/-- What a wait for a copy over semaphore `j` of array `k` needs, -/
abbrev due (k : Fin 4) (j : Dev nD) : sProp 𝕄 :=
  iprop(cred (tallyAt (cell c (some (k, j))) () (amt (some (k, j)))) ∗ atPos ER (cell c (some (k, j))) 0 ∅ 0)
/-- and what it leaves. -/
abbrev got (k : Fin 4) (j : Dev nD) : sProp 𝕄 := iprop(semVal (cell c (some (k, j))) 0 ∗ dmaPay m c k j)

theorem maxWait_step (t : Fin 15) (u : PUnit) :
    iprop((ctx m K ∗ owing c 0) ∗ due c 3 (from_ c t))
      ⊢ run c (maxWaitStep (F := F) aM (Memref.isWhole_whole _) gM cc0_scratch7 c t u)
        fun _ => iprop((ctx m K ∗ owing c 0) ∗ got m c 3 (from_ c t)) := by
  simp only [maxWaitStep, Prog.lift, Prog.bind_op, Prog.bind_ret, Prog.pure_eq_ret]
  iintro ⟨⟨#HC, %W, HO⟩, Hc, Hp⟩
  iapply (wait_dma m K c 3 (from_ c t) (from_ne c t) W (sem_at 3 (from_ c t) (off11_at c t) (k0_off11_inb c t))
    (src := aM) (dst := (gM.slice (Rect.unit (s := S16x1x128) (k0_off12 c (BitVec.ofNat 32 (1 + t.val))) S1x1x128.size (k0_off12_inb c t)) (fun _ => rfl)).squeeze S1x128 squeezes_S1x1x128_S1x128)
    (credit_row _ 3 (by decide) _)) $$ [Hc Hp HO]
  · isplitr; · iexact HC
    isplitl [Hc]; · iexact Hc
    isplitl [HO]; · iexact HO
    iexact Hp
  iintro ⟨HO, Hv, Hg⟩
  iapply (run_ret c)
  isplitl [HO]
  · isplitr; · iexact HC
    iexact HO
  isplitl [Hv]; · iexact Hv
  iexact Hg

/-! ## The result, block by block -/

/-- The rows from one slot: read the block, scale it to integers and back, write it. -/
theorem quant_rows (j : Dev nD) {off : Fin 3 → ℕ} (h : off = ![j.val, 0, 0]) {off' : Fin 2 → ℕ} (h' : off' = ![256 * j.val, 0])
    {inb : ∀ a, off a + S1x256x128.size a ≤ S16x256x128.size a} {inb' : ∀ a, off' a + S256x128.size a ≤ S4096x128.size a}
    {hl : rM.view.LoadsAt (Rect.unit (s := S16x256x128) off S1x256x128.size inb).toLoadRect}
    {hl' : oM.view.LoadsAt (Rect.unit (s := S4096x128) off' S256x128.size inb').toLoadRect}
    {hx : (oM.access (Rect.unit (s := S4096x128) off' S256x128.size inb')).Stores Finset.univ}
    {hm : (Finset.univ : Finset (Rect.unit (s := S4096x128) off' S256x128.size inb').shape.Idx) = Finset.univ ∨ ∀ a, (Rect.unit (s := S4096x128) off' S256x128.size inb').stride a = 1}
    {α : Type} {k : PUnit → Prog (TpuEff nD τ sig (Elt F) Λ₀ .tc) α} {Q : α → sProp 𝕄} :
    iprop(owns (c : Thread nD τ) (rSlot j) fullShare (sent m j c) ∗ held c (oSlot j))
      ⊢ iprop(((owns (c : Thread nD τ) (rSlot j) fullShare (sent m j c) ∗ owns (c : Thread nD τ) (oSlot j) fullShare (outBlk m c j)) -∗ run c (k ⟨⟩) Q)
        -∗ run c (.op (.load rM (Rect.unit (s := S16x256x128) off S1x256x128.size inb).toLoadRect hl) fun b : Vec F S1x256x128 .bf16 =>
          .op (.load oM (Rect.unit (s := S4096x128) off' S256x128.size inb').toLoadRect hl') fun _ : Vec F S256x128 .f32 =>
          .op (.store oM (Rect.unit (s := S4096x128) off' S256x128.size inb') (quantBlk (scale m) b) Finset.univ hx hm) k) Q) := by
  iintro ⟨Hr, Ho⟩ Hk
  iapply (load_owned c rM h inb (slot_inb j)) $$ Hr
  iintro Hr
  iapply (load_held c oM h' inb' (out_inb j)) $$ Ho
  iintro %_ Ho
  iapply (store_held c oM h' inb' (out_inb j)) $$ Ho
  iintro Ho
  iapply Hk
  isplitl [Hr]; · iexact Hr
  iexact Ho

/-- What the four arrays' copies leave with the waiter. -/
theorem pay_0 (j : Dev nD) : dmaPay m c 0 j = held c (sSlot j) := rfl
theorem pay_1 (j : Dev nD) : dmaPay m c 1 j = owns (c : Thread nD τ) (rSlot j) fullShare (sent m j c) := rfl
theorem pay_2 (j : Dev nD) : dmaPay m c 2 j = lent m c j := rfl
theorem pay_3 (j : Dev nD) : dmaPay m c 3 j = owns (c : Thread nD τ) (gSlot j) fullShare (slotRowOf (top m j)) := rfl

theorem out_step (t : Fin 15) (u : PUnit) :
    iprop((ctx m K ∗ owing c 0) ∗ (due c 1 (from_ c t) ∗ held c (oSlot (from_ c t))))
      ⊢ run c (outStep oM sM (Memref.isWhole_whole _) rM (Memref.isWhole_whole _) cc0_scratch5 c (scale m) t u)
        fun _ => iprop((ctx m K ∗ owing c 0) ∗ (got m c 1 (from_ c t) ∗ owns (c : Thread nD τ) (oSlot (from_ c t)) fullShare (outBlk m c (from_ c t)))) := by
  simp only [outStep, Prog.lift, Prog.bind_op, Prog.bind_ret, Prog.pure_eq_ret]
  iintro ⟨⟨#HC, %W, HO⟩, ⟨Hc, Hp⟩, Ho⟩
  iapply (wait_dma m K c 1 (from_ c t) (from_ne c t) W (sem_at 1 (from_ c t) (off11_at c t) (k0_off11_inb c t))
    (src := (sM.slice (Rect.unit (s := S16x256x128) ![0, 0, 0] S1x256x128.size inb_S16x256x128_S1x256x128_0_0_0) (fun _ => rfl)).squeeze S256x128 squeezes_S1x256x128_S256x128)
    (dst := (rM.slice (Rect.unit (s := S16x256x128) (k0_off14 c (BitVec.ofNat 32 (1 + t.val))) S1x256x128.size (k0_off14_inb c t)) (fun _ => rfl)).squeeze S256x128 squeezes_S1x256x128_S256x128)
    (credit_blk _ 1 (by decide) _)) $$ [Hc Hp HO]
  · isplitr; · iexact HC
    isplitl [Hc]; · iexact Hc
    isplitl [HO]; · iexact HO
    iexact Hp
  rw [pay_1]
  iintro ⟨HO, Hv, Hr⟩
  iapply (quant_rows m c (from_ c t) (off15_at c t) (off16_at c t)) $$ [Hr Ho]
  · isplitl [Hr]; · iexact Hr
    iexact Ho
  iintro ⟨Hr, Ho⟩
  iapply (run_ret c)
  isplitl [HO]
  · isplitr; · iexact HC
    iexact HO
  isplitl [Hv Hr]
  · isplitl [Hv]; · iexact Hv
    rw [pay_1]; iexact Hr
  iexact Ho

/-! ## The device's own copies, gone -/

theorem done_step (t : Fin 15) (u : PUnit) :
    iprop((ctx m K ∗ owing c 0) ∗ (due c 0 (peer c t) ∗ due c 2 (peer c t)))
      ⊢ run c (doneStep (F := F) sM (Memref.isWhole_whole _) aM (Memref.isWhole_whole _) cc0_scratch4 cc0_scratch6 c t u)
        fun _ => iprop((ctx m K ∗ owing c 0) ∗ (got m c 0 (peer c t) ∗ got m c 2 (peer c t))) := by
  simp only [doneStep, Prog.lift, Prog.bind_op, Prog.bind_ret, Prog.pure_eq_ret]
  iintro ⟨⟨#HC, %W, HO⟩, ⟨Hc, Hp⟩, Hc', Hp'⟩
  iapply (wait_dma m K c 0 (peer c t) (peer_ne c t) W (sem_at 0 (peer c t) (off9_at c t) (k0_off9_inb c t))
    (src := (sM.slice (Rect.unit (s := S16x256x128) (k0_off17 c (BitVec.ofNat 32 (1 + t.val))) S1x256x128.size (k0_off17_inb c t)) (fun _ => rfl)).squeeze S256x128 squeezes_S1x256x128_S256x128)
    (dst := (sM.slice (Rect.unit (s := S16x256x128) (k0_off17 c (BitVec.ofNat 32 (1 + t.val))) S1x256x128.size (k0_off17_inb c t)) (fun _ => rfl)).squeeze S256x128 squeezes_S1x256x128_S256x128)
    (credit_blk _ 0 (by decide) _)) $$ [Hc Hp HO]
  · isplitr; · iexact HC
    isplitl [Hc]; · iexact Hc
    isplitl [HO]; · iexact HO
    iexact Hp
  iintro ⟨⟨%W', HO⟩, Hv, Hs⟩
  iapply (wait_dma m K c 2 (peer c t) (peer_ne c t) W' (sem_at 2 (peer c t) (off9_at c t) (k0_off9_inb c t))
    (src := aM) (dst := aM) (credit_row _ 2 (by decide) _)) $$ [Hc' Hp' HO]
  · isplitr; · iexact HC
    isplitl [Hc']; · iexact Hc'
    isplitl [HO]; · iexact HO
    iexact Hp'
  iintro ⟨HO, Hv', Ha⟩
  iapply (run_ret c)
  isplitl [HO]
  · isplitr; · iexact HC
    iexact HO
  isplitl [Hv Hs]
  · isplitl [Hv]; · iexact Hv
    iexact Hs
  isplitl [Hv']; · iexact Hv'
  iexact Ha

end Cert.KernelIdeal.Own

end
-- ==== Proof.Pieces.lean ====
/- The straight pieces between the loops, and how the cells of a device are grouped. -/
module

public import proofs.«01_k».proof.Proof.Steps

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-- A family over the four arrays, one by one. -/
theorem bigSep_four {M : Type} [URA M] (Φ : Fin 4 → sProp M) : bigSep Finset.univ Φ = iprop(Φ 0 ∗ Φ 1 ∗ Φ 2 ∗ Φ 3) := by
  rw [show (Finset.univ : Finset (Fin 4)) = {0, 1, 2, 3} by decide, bigSep_one_more (by decide), bigSep_one_more (by decide), bigSep_one_more (by decide), bigSep_singleton]

/-- A family over the cells of a device: the barrier's, and the copies'. -/
theorem bigSep_option {M : Type} [URA M] (Φ : CIx → sProp M) :
    bigSep Finset.univ Φ = iprop(Φ none ∗ bigSep Finset.univ fun p : Fin 4 × Fin 16 => Φ (some p)) := by
  have hn : (none : CIx) ∉ (Finset.univ : Finset (Fin 4 × Fin 16)).map Function.Embedding.some := by simp
  have hu : (Finset.univ : Finset CIx) = insert none ((Finset.univ : Finset (Fin 4 × Fin 16)).map Function.Embedding.some) := by
    ext i; cases i <;> simp
  rw [hu, bigSep_one_more hn, bigSep_map]; rfl

/-- A family over a device's cells: the barrier's, and in each array the device's own and the fifteen others, those counting departures
    by the device sent to, those counting arrivals by the device sent from. -/
theorem bigSep_cells {M : Type} [URA M] (Φ : CIx → sProp M) :
    bigSep Finset.univ Φ = iprop(Φ none
      ∗ (Φ (some (0, c)) ∗ bigSep Finset.univ fun t : Fin 15 => Φ (some (0, peer c t)))
      ∗ (Φ (some (1, c)) ∗ bigSep Finset.univ fun t : Fin 15 => Φ (some (1, from_ c t)))
      ∗ (Φ (some (2, c)) ∗ bigSep Finset.univ fun t : Fin 15 => Φ (some (2, peer c t)))
      ∗ (Φ (some (3, c)) ∗ bigSep Finset.univ fun t : Fin 15 => Φ (some (3, from_ c t)))) := by
  rw [bigSep_option, bigSep_univ_prod, bigSep_four]
  rw [← bigSep_peers c fun j => Φ (some (0, j)), ← bigSep_froms c fun j => Φ (some (1, j)), ← bigSep_peers c fun j => Φ (some (2, j)),
    ← bigSep_froms c fun j => Φ (some (3, j))]

/-! ## The straight pieces -/

/-- The load of the device's rows. -/
theorem load_rows {α : Type} {inb : ∀ a, (![0, 0] : Fin 2 → ℕ) a + S256x4096.size a ≤ S256x4096.size a}
    {hl : xM.view.LoadsAt (Rect.unit (s := S256x4096) ![0, 0] S256x4096.size inb).toLoadRect}
    {k : Vec F S256x4096 .bf16 → Prog (TpuEff nD τ sig (Elt F) Λ₀ .tc) α} {Q : α → sProp 𝕄} :
    xHeld m c ⊢ iprop((xHeld m c -∗ run c (k (xstg m c)) Q)
      -∗ run c (.op (.load xM (Rect.unit (s := S256x4096) ![0, 0] S256x4096.size inb).toLoadRect hl) k) Q) := by
  have e : xM.view.readAt (Elt F) (Rect.unit (s := S256x4096) ![0, 0] S256x4096.size inb).toLoadRect (xstg m c) = xstg m c :=
    Memref.readAt_unit_zero (Elt F) cc0_stg0_0 (funext fun a => by fin_cases a <;> rfl) inb (xstg m c)
  iintro Hx Hk
  iapply (wp_load 𝒱₀ (c : Thread nD τ) none Set.univ (m := xM) (Finset.subset_univ _)) $$ Hx
  rw [e]
  iintro Hx
  iapply Hk
  iexact Hx

/-- The load of the sixteen largest entries. -/
theorem load_tops {g : Buf (Elt F) ((c : Thread nD τ).loc cc0_scratch3)} {α : Type}
    (hg : gM.view.readAt (Elt F) (Rect.unit (s := S16x1x128) ![0, 0, 0] S16x1x1.size inb_S16x1x128_S16x1x1_0_0_0).toLoadRect g = tops m)
    {hl : gM.view.LoadsAt (Rect.unit (s := S16x1x128) ![0, 0, 0] S16x1x1.size inb_S16x1x128_S16x1x1_0_0_0).toLoadRect}
    {k : Vec F S16x1x1 .f32 → Prog (TpuEff nD τ sig (Elt F) Λ₀ .tc) α} {Q : α → sProp 𝕄} :
    (((c : Thread nD τ).loc cc0_scratch3) ↦{fullShare} g : sProp 𝕄)
      ⊢ iprop(((((c : Thread nD τ).loc cc0_scratch3) ↦{fullShare} g) -∗ run c (k (tops m)) Q)
      -∗ run c (.op (.load gM (Rect.unit (s := S16x1x128) ![0, 0, 0] S16x1x1.size inb_S16x1x128_S16x1x1_0_0_0).toLoadRect hl) k) Q) := by
  iintro Hg Hk
  iapply (wp_load 𝒱₀ (c : Thread nD τ) none Set.univ (m := gM) (Finset.subset_univ _)) $$ Hg
  rw [hg]
  iintro Hg
  iapply Hk
  iexact Hg

theorem off1_own : k0_off1 c 15#32 = ![0, 128 * c.val] := by
  rw [show (15#32 : BitVec 32) = BitVec.ofNat 32 (15 : Fin 16).val from rfl, k0_off1_eq c 15]
  have : c.val < 16 := c.isLt
  rw [show (c.val + (15 : Fin 16).val + 1) % 16 = c.val by show (c.val + 15 + 1) % 16 = _; omega]

/-- The device's own block, kept, and its largest entry, written where it is sent from and where it is kept. -/
theorem own_step {α : Type} {k : PUnit → Prog (TpuEff nD τ sig (Elt F) Λ₀ .tc) α} {Q : α → sProp 𝕄} :
    iprop(wHeld m c ∗ held c (rSlot c) ∗ held c (gSlot c) ∗ ∃ f, ((c : Thread nD τ).loc cc0_scratch2) ↦{fullShare} f)
      ⊢ iprop(((wHeld m c ∗ owns (c : Thread nD τ) (rSlot c) fullShare (sent m c c) ∗ owns (c : Thread nD τ) (gSlot c) fullShare (slotRowOf (top m c))
            ∗ (((c : Thread nD τ).loc cc0_scratch2) ↦{fullShare} (rowOf (top m c) : Vec F S1x128 .f32))) -∗ run c (k ⟨⟩) Q)
        -∗ run c (ownStep wM rM (Memref.isWhole_whole _) aM gM c (xstg m c) (runMax m c 15) >>= k) Q) := by
  simp only [ownStep, Prog.lift, Prog.bind_op, Prog.bind_ret, Prog.pure_eq_ret]
  have e (f w : Vec F S1x128 .f32) :
      (aM.access (Rect.unit (s := S1x128) ![0, 0] S1x128.size inb_S1x128_S1x128_0_0)).write (Elt F) f w Finset.univ = w :=
    Memref.write_access_unit_zero_univ (Elt F) cc0_scratch2 (funext fun a => by fin_cases a <;> rfl) inb_S1x128_S1x128_0_0 f w
  iintro ⟨Hw, Hr, Hg, %f, Ha⟩ Hk
  iapply (load_col m c c (off1_own c)) $$ Hw
  iintro Hw
  iapply (load_held c rM (k0_off7_eq c) (k0_off7_inb c) (slot_inb c)) $$ Hr
  iintro %_ Hr
  iapply (store_held c rM (k0_off7_eq c) (k0_off7_inb c) (slot_inb c)) $$ Hr
  iintro Hr
  iapply (wp_load 𝒱₀ (c : Thread nD τ) none Set.univ (m := aM) (Finset.subset_univ _)) $$ Ha
  iintro Ha
  iapply (wp_store 𝒱₀ (c : Thread nD τ) none Set.univ (m := aM) (r := Rect.unit (s := S1x128) ![0, 0] S1x128.size inb_S1x128_S1x128_0_0)
    (Mk := Finset.univ) (S := Finset.univ) (f := f) (Finset.subset_univ _)) $$ Ha
  rw [e]
  iintro Ha
  iapply (load_held c gM (k0_off8_eq c) (k0_off8_inb c) (row_inb c)) $$ Hg
  iintro %_ Hg
  iapply (store_held c gM (k0_off8_eq c) (k0_off8_inb c) (row_inb c)) $$ Hg
  iintro Hg
  iapply Hk
  isplitl [Hw]; · iexact Hw
  isplitl [Hr]; · iexact Hr
  isplitl [Hg]; · iexact Hg
  iexact Ha

/-- The device's own rows of the result. -/
theorem ownOut_step {α : Type} {k : PUnit → Prog (TpuEff nD τ sig (Elt F) Λ₀ .tc) α} {Q : α → sProp 𝕄} :
    iprop(owns (c : Thread nD τ) (rSlot c) fullShare (sent m c c) ∗ held c (oSlot c))
      ⊢ iprop(((owns (c : Thread nD τ) (rSlot c) fullShare (sent m c c) ∗ owns (c : Thread nD τ) (oSlot c) fullShare (outBlk m c c)) -∗ run c (k ⟨⟩) Q)
        -∗ run c (ownOutStep oM rM c (scale m) >>= k) Q) := by
  simp only [ownOutStep, Prog.lift, Prog.bind_op, Prog.bind_ret, Prog.pure_eq_ret]
  iintro H Hk
  iapply (quant_rows m c c (k0_off7_eq c) (k0_off13_eq c)) $$ H
  iexact Hk

/-- A cell nothing is sent to closes at zero. -/
theorem close_own (k : Fin 4) :
    iprop(ctx m K ∗ atPos ER (cell c (some (k, c))) 0 ∅ 0) ⊢ (iprop(|={Set.univ}=> semVal (cell c (some (k, c))) 0) : sProp 𝕄) := by
  iintro ⟨#HC, Hp⟩
  ihave #Hi := (ctx_cell m K c (some (k, c))) $$ HC
  icases Hi with ⟨#Hinv, #Hre⟩
  iapply (Rounds.cell_close ER (Rd m) (Set.mem_univ (K (c, some (k, c)))) (fun h => h) (R := 0) (no_duties m c k))
  isplitr; · iexact Hinv
  iexact Hp

end Cert.KernelIdeal.Own

end
-- ==== Proof.Body.lean ====
/- One device's run of the kernel: what it is given, and what it leaves. -/
module

public import proofs.«01_k».proof.Proof.Pieces

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-- Two families side by side, as one. -/
theorem pair {I : Type} {s : Finset I} (Φ Ψ : I → sProp 𝕄) : iprop(bigSep s Φ ∗ bigSep s Ψ) ⊢ bigSep s fun i => iprop(Φ i ∗ Ψ i) :=
  Entails.of_eq (bigSep_sep' s Φ Ψ).symm
/-- One family of two parts, as two. -/
theorem unpair {I : Type} {s : Finset I} (Φ Ψ : I → sProp 𝕄) : (bigSep s fun i => iprop(Φ i ∗ Ψ i)) ⊢ iprop(bigSep s Φ ∗ bigSep s Ψ) :=
  Entails.of_eq (bigSep_sep' s Φ Ψ)

/-! ## The loops -/

/-- Positions at the start of a device's cells. -/
abbrev starts : sProp 𝕄 := bigSep Finset.univ fun i : CIx => atPos ER (cell c i) 0 ∅ 0
/-- The duties a device pays: its fifteen signals, -/
abbrev sigToks : sProp 𝕄 := bigSep Finset.univ fun t : Fin 15 => dutyTok ER (cell (peer c t) none) 0 t
/-- and each copy's departure and arrival: its blocks', -/
abbrev blkToks : sProp 𝕄 :=
  bigSep Finset.univ fun t : Fin 15 => iprop(dutyTok ER (cell c (some (0, peer c t))) 0 0 ∗ dutyTok ER (cell (peer c t) (some (1, c))) 0 0)
/-- and its largest entry's. -/
abbrev maxToks : sProp 𝕄 :=
  bigSep Finset.univ fun t : Fin 15 => iprop(dutyTok ER (cell c (some (2, peer c t))) 0 0 ∗ dutyTok ER (cell (peer c t) (some (3, c))) 0 0)
/-- What a device may wait for from the start: the signals, the blocks and the largest entries sent to it. -/
abbrev creds : sProp 𝕄 := iprop(cred (tallyAt (cell c none) () 15)
  ∗ (bigSep Finset.univ fun t : Fin 15 => cred (tallyAt (cell c (some (1, from_ c t))) () (amt (some (1, from_ c t)))))
  ∗ bigSep Finset.univ fun t : Fin 15 => cred (tallyAt (cell c (some (3, from_ c t))) () (amt (some (3, from_ c t)))))

theorem sig_loop {α : Type} {k : PUnit → Prog (TpuEff nD τ sig (Elt F) Λ₀ .tc) α} {Q : α → sProp 𝕄} :
    iprop(ctx m K ∗ owing c (O₀ c) ∗ bigSep Finset.univ fun t : Fin 15 =>
        iprop(dutyTok ER (cell (peer c t) none) 0 t ∗ held c (rSlot (peer c t)) ∗ held c (gSlot (peer c t))))
      ⊢ iprop((owing c (O₁ c) -∗ run c (k ⟨⟩) Q) -∗ run c (loop 15 (sigStep (F := F) c) ⟨⟩ >>= k) Q) := by
  iintro ⟨#HC, HO, HP⟩ Hk
  iapply (wp_loop frame (wpE (defs₀ (F := F)) 𝒱₀ (c : Thread nD τ) none) Set.univ
    (fun n _ => iprop(ctx m K ∗ owing c (rem (gSig c) n + O₁ c))) _ _ (sig_step m K c) ⟨⟩) $$ [HO HP]
  · isplitl [HO]
    · isplitr; · iexact HC
      iexact HO
    iexact HP
  iintro %_ ⟨⟨-, HO⟩, -⟩
  rw [rem_end, zero_add]
  iapply Hk
  iexact HO

theorem blk_loop {α : Type} {k : F .f32 → Prog (TpuEff nD τ sig (Elt F) Λ₀ .tc) α} {Q : α → sProp 𝕄} :
    iprop(ctx m K ∗ wHeld m c ∗ owing c (O₁ c) ∗ bigSep Finset.univ fun t : Fin 15 =>
        iprop(held c (sSlot (peer c t)) ∗ held (peer c t) (rSlot c) ∗ dutyTok ER (cell c (some (0, peer c t))) 0 0 ∗ dutyTok ER (cell (peer c t) (some (1, c))) 0 0))
      ⊢ iprop(((wHeld m c ∗ owing c (rem (gMax c) 0)
            ∗ bigSep Finset.univ fun t : Fin 15 => cred (tallyAt (cell c (some (0, peer c t))) () (amt (some (0, peer c t))))) -∗ run c (k (runMax m c 15)) Q)
        -∗ run c (loop 15 (blkStep wM sM (Memref.isWhole_whole _) rM (Memref.isWhole_whole _) cc0_scratch4 cc0_scratch5 c (xstg m c))
          (Scalar.ofBits .f32 0x00000000#32) >>= k) Q) := by
  iintro ⟨#HC, Hw, HO, HP⟩ Hk
  iapply (wp_loop frame (wpE (defs₀ (F := F)) 𝒱₀ (c : Thread nD τ) none) Set.univ
    (fun n a => iprop(ctx m K ∗ wHeld m c ∗ ⌜a = runMax m c n⌝ ∗ owing c (rem (gBlk c) n + rem (gMax c) 0))) _ _ (blk_step m K c) _) $$ [Hw HO HP]
  · isplitl [Hw HO]
    · isplitr; · iexact HC
      isplitl [Hw]; · iexact Hw
      isplitr; · ipureintro; rfl
      iexact HO
    iexact HP
  iintro %a ⟨⟨-, Hw, %ha, HO⟩, Hc⟩
  rw [rem_end, zero_add, ha]
  iapply Hk
  isplitl [Hw]; · iexact Hw
  isplitl [HO]; · iexact HO
  iexact Hc

theorem max_loop {α : Type} {k : PUnit → Prog (TpuEff nD τ sig (Elt F) Λ₀ .tc) α} {Q : α → sProp 𝕄} :
    iprop(ctx m K ∗ owing c (rem (gMax c) 0) ∗ bigSep Finset.univ fun t : Fin 15 =>
        iprop(lent m c (peer c t) ∗ held (peer c t) (gSlot c) ∗ dutyTok ER (cell c (some (2, peer c t))) 0 0 ∗ dutyTok ER (cell (peer c t) (some (3, c))) 0 0))
      ⊢ iprop(((owing c 0 ∗ bigSep Finset.univ fun t : Fin 15 => cred (tallyAt (cell c (some (2, peer c t))) () (amt (some (2, peer c t))))) -∗ run c (k ⟨⟩) Q)
        -∗ run c (loop 15 (maxStep (F := F) aM (Memref.isWhole_whole _) gM cc0_scratch6 cc0_scratch7 c) ⟨⟩ >>= k) Q) := by
  iintro ⟨#HC, HO, HP⟩ Hk
  iapply (wp_loop frame (wpE (defs₀ (F := F)) 𝒱₀ (c : Thread nD τ) none) Set.univ
    (fun n _ => iprop(ctx m K ∗ owing c (rem (gMax c) n))) _ _ (max_step m K c) ⟨⟩) $$ [HO HP]
  · isplitl [HO]
    · isplitr; · iexact HC
      iexact HO
    iexact HP
  iintro %_ ⟨⟨-, HO⟩, Hc⟩
  rw [rem_end]
  iapply Hk
  isplitl [HO]; · iexact HO
  iexact Hc

/-- A loop during which nothing is owed. -/
theorem quiet_loop {f : Fin 15 → PUnit → Prog (TpuEff nD τ sig (Elt F) Λ₀ .tc) PUnit} (Pre Post : Fin 15 → sProp 𝕄)
    (h : ∀ t u, iprop((ctx m K ∗ owing c 0) ∗ Pre t) ⊢ run c (f t u) fun _ => iprop((ctx m K ∗ owing c 0) ∗ Post t))
    {α : Type} {k : PUnit → Prog (TpuEff nD τ sig (Elt F) Λ₀ .tc) α} {Q : α → sProp 𝕄} :
    iprop(ctx m K ∗ owing c 0 ∗ bigSep Finset.univ Pre)
      ⊢ iprop(((owing c 0 ∗ bigSep Finset.univ Post) -∗ run c (k ⟨⟩) Q) -∗ run c (loop 15 f ⟨⟩ >>= k) Q) := by
  iintro ⟨#HC, HO, HP⟩ Hk
  iapply (wp_loop frame (wpE (defs₀ (F := F)) 𝒱₀ (c : Thread nD τ) none) Set.univ
    (fun _ _ => iprop(ctx m K ∗ owing c 0)) Pre Post h ⟨⟩) $$ [HO HP]
  · isplitl [HO]
    · isplitr; · iexact HC
      iexact HO
    iexact HP
  iintro %_ ⟨⟨-, HO⟩, Hc⟩
  iapply Hk
  isplitl [HO]; · iexact HO
  iexact Hc

/-! ## The run -/

/-- A scratch buffer at any contents. -/
abbrev any (b : Ref sig .tc) : sProp 𝕄 := iprop(∃ f : Buf (Elt F) ((c : Thread nD τ).loc b), ((c : Thread nD τ).loc b) ↦{fullShare} f)

/-- The loops of the kernel on its own buffers. -/
abbrev kloops : Prog (TpuEff nD τ sig (Elt F) Λ₀ .tc) PUnit :=
  loops xM wM oM sM (Memref.isWhole_whole _) rM (Memref.isWhole_whole _) aM (Memref.isWhole_whole _) gM cc0_scratch4 cc0_scratch5 cc0_scratch6 cc0_scratch7

/-- One device's run: from its operands, buffers, positions, duties and credits, it leaves its operands as they were, the result's
    rows written, every cell at zero, and nothing owed. -/
theorem run_loops :
    iprop(ctx m K ∗ (xHeld m c ∗ wHeld m c ∗ any c cc0_stg2_0)
        ∗ (any c cc0_scratch0 ∗ any c cc0_scratch1 ∗ any c cc0_scratch2 ∗ any c cc0_scratch3)
        ∗ (starts c ∗ sigToks c ∗ blkToks c ∗ maxToks c) ∗ creds c ∗ owing c (O₀ c))
      ⊢ run c (kloops (F := F)) fun _ => iprop((xHeld m c ∗ wHeld m c ∗ ((c : Thread nD τ).loc cc0_stg2_0) ↦{fullShare} outAt m c)
        ∗ (any c cc0_scratch0 ∗ any c cc0_scratch1 ∗ any c cc0_scratch2 ∗ any c cc0_scratch3)
        ∗ (bigSep Finset.univ fun i : CIx => semVal (cell c i) 0) ∗ owing c 0) := by
  rw [← Prog.bind_pure (kloops (F := F))]
  unfold kloops loops
  simp only [semWaitWord, Prog.lift, Prog.bind_op, Prog.bind_ret, Prog.bind_assoc, wp_deviceId]
  iintro ⟨#HC, ⟨Hx, Hw, %fo, Ho⟩, ⟨⟨%fs, Hs⟩, ⟨%fr, Hr⟩, Ha, %fg, Hg⟩, ⟨Hp, Ht, Htb, Htm⟩, ⟨Hcb, Hc1, Hc3⟩, HO⟩
  -- the buffers, slot by slot, each device's own slot apart
  ihave Hs := ((sBuf_split c fs).trans (Entails.of_eq (bigSep_peers c fun j => held c (sSlot j)))) $$ Hs
  ihave Hr := ((rBuf_split c fr).trans (Entails.of_eq (bigSep_peers c fun j => held c (rSlot j)))) $$ Hr
  ihave Hg := ((gBuf_split c fg).trans (Entails.of_eq (bigSep_peers c fun j => held c (gSlot j)))) $$ Hg
  ihave Ho := ((oBuf_split c fo).trans (Entails.of_eq (bigSep_froms c fun j => held c (oSlot j)))) $$ Ho
  icases Hs with ⟨Hs0, Hs⟩; icases Hr with ⟨Hr0, Hr⟩; icases Hg with ⟨Hg0, Hg⟩; icases Ho with ⟨Ho0, Ho⟩
  ihave Hp := (Entails.of_eq (bigSep_cells c fun i => atPos ER (cell c i) 0 ∅ 0)) $$ Hp
  icases Hp with ⟨Hpb, ⟨Hp0o, Hp0⟩, ⟨Hp1o, Hp1⟩, ⟨Hp2o, Hp2⟩, Hp3o, Hp3⟩
  -- the entry's barrier
  ihave Hrg := (pair _ _) $$ [Hr Hg]
  · isplitl [Hr]; · iexact Hr
    iexact Hg
  ihave HP := (pair _ _) $$ [Ht Hrg]
  · isplitl [Ht]; · iexact Ht
    iexact Hrg
  iapply (sig_loop m K c) $$ [HO HP]
  · isplitr; · iexact HC
    isplitl [HO]; · iexact HO
    iexact HP
  iintro ⟨%W, HO⟩
  iapply (wait_bar m K c W) $$ [HO Hcb Hpb]
  · isplitr; · iexact HC
    isplitl [Hcb]; · iexact Hcb
    isplitl [HO]; · iexact HO
    iexact Hpb
  iintro ⟨HO, Hvb, Hrg⟩
  ihave Hrg := (unpair _ _) $$ Hrg
  icases Hrg with ⟨Hr, Hg⟩
  -- the blocks
  iapply (load_rows m c) $$ Hx
  iintro Hx
  ihave HP := (pair _ _) $$ [Hr Htb]
  · isplitl [Hr]; · iexact Hr
    iexact Htb
  ihave HP := (pair _ _) $$ [Hs HP]
  · isplitl [Hs]; · iexact Hs
    iexact HP
  iapply (blk_loop m K c) $$ [Hw HO HP]
  · isplitr; · iexact HC
    isplitl [Hw]; · iexact Hw
    isplitl [HO]; · iexact HO
    iexact HP
  iintro ⟨Hw, HO, Hc0⟩
  iapply (own_step m c) $$ [Hw Hr0 Hg0 Ha]
  · isplitl [Hw]; · iexact Hw
    isplitl [Hr0]; · iexact Hr0
    isplitl [Hg0]; · iexact Hg0
    iexact Ha
  iintro ⟨Hw, Hr0, Hg0, Ha⟩
  -- the largest entries
  ihave Ha := (aBuf_split m c) $$ Ha
  icases Ha with ⟨Hak, Ha⟩
  ihave Ha := (Entails.of_eq (bigSep_peers c fun j => lent m c j)) $$ Ha
  icases Ha with ⟨Ha0, Ha⟩
  ihave HP := (pair _ _) $$ [Hg Htm]
  · isplitl [Hg]; · iexact Hg
    iexact Htm
  ihave HP := (pair _ _) $$ [Ha HP]
  · isplitl [Ha]; · iexact Ha
    iexact HP
  iapply (max_loop m K c) $$ [HO HP]
  · isplitr; · iexact HC
    isplitl [HO]; · iexact HO
    iexact HP
  iintro ⟨HO, Hc2⟩
  ihave HP := (pair _ _) $$ [Hc3 Hp3]
  · isplitl [Hc3]; · iexact Hc3
    iexact Hp3
  iapply (quiet_loop m K c _ _ (maxWait_step m K c)) $$ [HO HP]
  · isplitr; · iexact HC
    isplitl [HO]; · iexact HO
    iexact HP
  iintro ⟨HO, HP⟩
  ihave HP := (unpair _ _) $$ HP
  icases HP with ⟨Hv3, Hg⟩
  ihave Hg := ((Entails.of_eq (bigSep_froms c fun j => owns (c : Thread nD τ) (gSlot j) fullShare (slotRowOf (top m j))).symm).trans (gBuf_join m c)) $$ [Hg0 Hg]
  · isplitl [Hg0]; · iexact Hg0
    iexact Hg
  icases Hg with ⟨%g, %hg, Hg⟩
  iapply (load_tops m c hg) $$ Hg
  iintro Hg
  -- the result's rows
  iapply (ownOut_step m c) $$ [Hr0 Ho0]
  · isplitl [Hr0]; · iexact Hr0
    iexact Ho0
  iintro ⟨Hr0, Ho0⟩
  ihave HP := (pair _ _) $$ [Hc1 Hp1]
  · isplitl [Hc1]; · iexact Hc1
    iexact Hp1
  ihave HP := (pair _ _) $$ [HP Ho]
  · isplitl [HP]; · iexact HP
    iexact Ho
  iapply (quiet_loop m K c _ _ (out_step m K c)) $$ [HO HP]
  · isplitr; · iexact HC
    isplitl [HO]; · iexact HO
    iexact HP
  iintro ⟨HO, HP⟩
  ihave HP := (unpair _ _) $$ HP
  icases HP with ⟨HP, Ho⟩
  ihave HP := (unpair _ _) $$ HP
  icases HP with ⟨Hv1, Hr⟩
  -- the copies gone
  ihave HP := (pair _ _) $$ [Hc0 Hp0]
  · isplitl [Hc0]; · iexact Hc0
    iexact Hp0
  ihave HP' := (pair _ _) $$ [Hc2 Hp2]
  · isplitl [Hc2]; · iexact Hc2
    iexact Hp2
  ihave HP := (pair _ _) $$ [HP HP']
  · isplitl [HP]; · iexact HP
    iexact HP'
  iapply (quiet_loop m K c _ _ (done_step m K c)) $$ [HO HP]
  · isplitr; · iexact HC
    isplitl [HO]; · iexact HO
    iexact HP
  iintro ⟨HO, HP⟩
  ihave HP := (unpair _ _) $$ HP
  icases HP with ⟨HP, HP'⟩
  ihave HP := (unpair _ _) $$ HP
  icases HP with ⟨Hv0, Hs⟩
  ihave HP' := (unpair _ _) $$ HP'
  icases HP' with ⟨Hv2, Ha⟩
  -- the cells nothing is sent to
  imod (close_own m K c 0) $$ [Hp0o] with Hv0o
  · isplitr; · iexact HC
    iexact Hp0o
  imod (close_own m K c 1) $$ [Hp1o] with Hv1o
  · isplitr; · iexact HC
    iexact Hp1o
  imod (close_own m K c 2) $$ [Hp2o] with Hv2o
  · isplitr; · iexact HC
    iexact Hp2o
  imod (close_own m K c 3) $$ [Hp3o] with Hv3o
  · isplitr; · iexact HC
    iexact Hp3o
  rw [Prog.pure_eq_ret]
  iapply (run_ret c)
  isplitl [Hx Hw Ho0 Ho]
  · isplitl [Hx]; · iexact Hx
    isplitl [Hw]; · iexact Hw
    iapply ((Entails.of_eq (bigSep_froms c fun j => owns (c : Thread nD τ) (oSlot j) fullShare (outBlk m c j)).symm).trans (oBuf_join m c))
    isplitl [Ho0]; · iexact Ho0
    iexact Ho
  isplitl [Hs0 Hs Hr0 Hr Hak Ha0 Ha Hg]
  · isplitl [Hs0 Hs]
    · iapply ((Entails.of_eq (bigSep_peers c fun j => held c (sSlot j)).symm).trans (sBuf_join m c))
      isplitl [Hs0]; · iexact Hs0
      iexact Hs
    isplitl [Hr0 Hr]
    · iapply (show (bigSep Finset.univ fun j => owns (c : Thread nD τ) (rSlot j) fullShare (sent m j c)) ⊢ (any c cc0_scratch1 : sProp 𝕄) from
        (bigSep_mono fun j _ => held_of_owns c (rSlot j) (sent m j c)).trans (rBuf_join m c))
      iapply (Entails.of_eq (bigSep_froms c fun j => owns (c : Thread nD τ) (rSlot j) fullShare (sent m j c)).symm)
      isplitl [Hr0]; · iexact Hr0
      iexact Hr
    isplitl [Hak Ha0 Ha]
    · iexists (rowOf (top m c) : Vec F S1x128 .f32)
      iapply (aBuf_join m c)
      isplitl [Hak]; · iexact Hak
      iapply (Entails.of_eq (bigSep_peers c fun j => lent m c j).symm)
      isplitl [Ha0]; · iexact Ha0
      iexact Ha
    iexists g; iexact Hg
  isplitr [HO]
  · iapply (Entails.of_eq (bigSep_cells c fun i => semVal (cell c i) 0).symm)
    isplitl [Hvb]; · iexact Hvb
    isplitl [Hv0o Hv0]
    · isplitl [Hv0o]; · iexact Hv0o
      iexact Hv0
    isplitl [Hv1o Hv1]
    · isplitl [Hv1o]; · iexact Hv1o
      iexact Hv1
    isplitl [Hv2o Hv2]
    · isplitl [Hv2o]; · iexact Hv2o
      iexact Hv2
    isplitl [Hv3o]; · iexact Hv3o
    iexact Hv3
  iexact HO

end Cert.KernelIdeal.Own

end
-- ==== Proof.Fund.lean ====
/- What each device starts with: its cells' invariants and positions, the duties it pays, and the credits for what it is owed. -/
module

public import proofs.«01_k».proof.Proof.Body

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

/-! ## The cells and the duties, as minted -/

/-- The copies' semaphores, the kernel's own. -/
abbrev osem (p : Fin 4 × Fin 16) : SemLoc sig := csem (some p)
theorem ownSemFacts : Pipeline.OwnSemFacts cfg0.spec osem := by decide +kernel

abbrev cellAt (x : Dev nD × CIx) : GSem nD τ sig := cell x.1 x.2
theorem cell_inj {c c' : Dev nD} {i i' : CIx} (h : cell c i = cell c' i') : c = c' ∧ i = i' :=
  ⟨congrArg (fun g : GSem nD τ sig => g.1.1) h, csem_injective (congrArg Prod.snd h)⟩
theorem cellAt_injective : Function.Injective cellAt := fun x y h => Prod.ext (cell_inj h).1 (cell_inj h).2
def allCells : Finset (GSem nD τ sig) := Finset.univ.map ⟨cellAt, cellAt_injective⟩

/-- A device's own cells' duties: the barrier's fifteen, and one at each semaphore used. -/
abbrev dutyAt (x : Dev nD × (Fin 15 ⊕ Fin 4 × Fin 15)) : GSem nD τ sig × ℕ × Fin 15 :=
  match x.2 with
  | .inl t => (cell x.1 none, 0, t)
  | .inr p => (cell x.1 (some (p.1, peer x.1 p.2)), 0, 0)
theorem dutyAt_injective : Function.Injective dutyAt := by
  rintro ⟨c, t | p⟩ ⟨c', t' | p'⟩ h
  · obtain ⟨rfl, -⟩ := cell_inj (congrArg Prod.fst h)
    have : t = t' := congrArg (fun y : GSem nD τ sig × ℕ × Fin 15 => y.2.2) h
    rw [this]
  · obtain ⟨-, h'⟩ := cell_inj (congrArg Prod.fst h); cases h'
  · obtain ⟨-, h'⟩ := cell_inj (congrArg Prod.fst h); cases h'
  · obtain ⟨rfl, h'⟩ := cell_inj (congrArg Prod.fst h)
    have h' := Option.some.inj h'
    have h1 : p.1 = p'.1 := (Prod.mk.inj h').1
    have h2 : p.2 = p'.2 := peer_injective c (Prod.mk.inj h').2
    rw [show p = p' from Prod.ext h1 h2]
def allDuties : Finset (GSem nD τ sig × ℕ × Fin 15) := Finset.univ.map ⟨dutyAt, dutyAt_injective⟩

def u₀ : UU := (initOf (Pipeline.cells cfgs cellOf_inj) (Pipeline.launchToks cfgs cellOf_inj), initOf allCells allDuties)

/-- The duties at device `c`'s own cells. -/
def minted (c : Dev nD) : sProp 𝕄 := iprop((bigSep Finset.univ fun t : Fin 15 => dutyTok ER (cell c none) 0 t)
  ∗ (bigSep Finset.univ fun t : Fin 15 => dutyTok ER (cell c (some (0, peer c t))) 0 0)
  ∗ (bigSep Finset.univ fun t : Fin 15 => dutyTok ER (cell c (some (1, from_ c t))) 0 0)
  ∗ (bigSep Finset.univ fun t : Fin 15 => dutyTok ER (cell c (some (2, peer c t))) 0 0)
  ∗ (bigSep Finset.univ fun t : Fin 15 => dutyTok ER (cell c (some (3, from_ c t))) 0 0))

theorem minted_eq (c : Dev nD) : (bigSep Finset.univ fun y : Fin 15 ⊕ Fin 4 × Fin 15 =>
    (dutyTok ER (dutyAt (c, y)).1 (dutyAt (c, y)).2.1 (dutyAt (c, y)).2.2 : sProp 𝕄)) ⊢ minted c := by
  have e := BI.bigSep_univ_sum fun y : Fin 15 ⊕ Fin 4 × Fin 15 => (dutyTok ER (dutyAt (c, y)).1 (dutyAt (c, y)).2.1 (dutyAt (c, y)).2.2 : sProp 𝕄)
  rw [e, bigSep_univ_prod, bigSep_four]
  unfold minted
  rw [bigSep_rev c fun j => (dutyTok ER (cell c (some (1, j))) 0 0 : sProp 𝕄), bigSep_rev c fun j => (dutyTok ER (cell c (some (3, j))) 0 0 : sProp 𝕄)]
  exact BI.Entails.refl _

/-- What each device is dealt. -/
def dealt (c : Dev nD) : sProp 𝕄 := iprop((bigSep Finset.univ fun i : CIx => roundState ER (Rd m) (cell c i) 0)
  ∗ starts c ∗ (bigSep Finset.univ fun i : CIx => reached ER (cell c i) 0) ∗ minted c)

theorem fund_all : BI.own (ER (initOf allCells allDuties)) ⊢ (|==> bigSep Finset.univ (dealt m) : sProp 𝕄) := by
  have hX (Φ : GSem nD τ sig → sProp 𝕄) : bigSep allCells Φ = bigSep Finset.univ fun c : Dev nD => bigSep Finset.univ fun i : CIx => Φ (cell c i) := by
    unfold allCells; rw [bigSep_map, bigSep_univ_prod]; rfl
  have hT : bigSep allDuties (fun x => (dutyTok ER x.1 x.2.1 x.2.2 : sProp 𝕄)) ⊢ bigSep Finset.univ fun c : Dev nD => minted c := by
    unfold allDuties; rw [bigSep_map, bigSep_univ_prod]
    exact bigSep_mono fun c _ => minted_eq c
  iintro HX
  imod (Rounds.fund ER (Rd m) allCells allDuties) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := hT $$ Htok
  unfold dealt; simp only [bigSep_sep']
  isplitl [Hst]; · iexact Hst
  isplitl [Hat]; · iexact Hat
  isplitl [Hr]; · iexact Hr
  iexact Htok

/-! ## The duties, with who pays them -/

/-- A family over devices and steps, read at each step's peer. -/
theorem bigSep_at_peers {M : Type} [URA M] (Φ : Dev nD → Fin 15 → sProp M) :
    (bigSep Finset.univ fun c : Dev nD => bigSep Finset.univ fun t : Fin 15 => Φ c t)
      = bigSep Finset.univ fun c : Dev nD => bigSep Finset.univ fun t : Fin 15 => Φ (peer c t) t := by
  rw [bigSep_univ_comm, bigSep_univ_comm (fun (c : Dev nD) (t : Fin 15) => Φ (peer c t) t)]
  exact bigSep_congr fun t _ => bigSep_univ_equiv (shift t) fun c => Φ c t

/-- The duties device `c` pays. -/
abbrev paid (c : Dev nD) : sProp 𝕄 := iprop(sigToks c ∗ blkToks c ∗ maxToks c)

theorem minted_paid : (bigSep Finset.univ fun c : Dev nD => (minted c : sProp 𝕄)) ⊢ bigSep Finset.univ fun c : Dev nD => paid c := by
  unfold minted
  simp only [paid, sigToks, blkToks, maxToks, bigSep_sep']
  rw [bigSep_at_peers fun c t => (dutyTok ER (cell c none) 0 t : sProp 𝕄),
    bigSep_at_peers fun c t => (dutyTok ER (cell c (some (1, from_ c t))) 0 0 : sProp 𝕄),
    bigSep_at_peers fun c t => (dutyTok ER (cell c (some (3, from_ c t))) 0 0 : sProp 𝕄)]
  simp only [from_peer]
  iintro ⟨H, H0, H1, H2, H3⟩
  isplitl [H]; · iexact H
  isplitl [H0 H1]
  · isplitl [H0] <;> iassumption
  isplitl [H2] <;> iassumption

/-! ## The semaphores at zero, the invariants -/

theorem sems_eq (c : Dev nD) :
    iprop(Pipeline.ownSems0 (Ix := Unit) (Name := ℕ) (U := UU) (Lvl := ℕ) (Val := Elt F) (τ := τ) osem c ∗ unscopedSems0 c)
      = (bigSep Finset.univ fun i : CIx => semVal (cell c i) 0 : sProp 𝕄) := by
  have hu : (unscopedSems0 c : sProp 𝕄) = semVal (cell c none) 0 := by
    unfold unscopedSems0; rw [bigSep_eq_bigSepL_of_eq [SemLoc.reg barS] (by decide) (by decide)]; rfl
  rw [bigSep_option, hu]
  unfold Pipeline.ownSems0
  exact BI.Entails.antisymm BI.sep_comm BI.sep_comm

/-- The cells' invariants, and that each is at its first round: what every device knows. -/
def known (K : Dev nD × CIx → ℕ) : sProp 𝕄 :=
  iprop((bigSep Finset.univ fun x : Dev nD × CIx => cellInv ER (Rd m) (K x) (cellAt x)) ∗ bigSep Finset.univ fun x : Dev nD × CIx => reached ER (cellAt x) 0)
instance known_persistent (K : Dev nD × CIx → ℕ) : BI.Persistent (known m K) := by unfold known; infer_instance

/-- What device `c` starts from, but for the levels and the credits. -/
def ready (c : Dev nD) : sProp 𝕄 := iprop(∃ K, known m K ∗ starts c ∗ paid c)

theorem alloc_cells (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun i : CIx => iprop(∃ κ : ℕ, cellInv ER (Rd m) κ (cell c i)))
          ∗ starts c ∗ (bigSep Finset.univ fun i : CIx => reached ER (cell c i) 0) ∗ minted c) := by
  unfold dealt
  iintro ⟨Hos, Hus, Hst, Hrest⟩
  ihave Hv := (Entails.of_eq (sems_eq (F := F) c)) $$ [Hos Hus]
  · isplitl [Hos] <;> iassumption
  imod (show iprop((bigSep Finset.univ fun i : CIx => semVal (cell c i) 0) ∗ bigSep Finset.univ fun i : CIx => roundState ER (Rd m) (cell c i) 0)
      ⊢ (|={Set.univ}=> bigSep Finset.univ fun i : CIx => iprop(∃ κ : ℕ, cellInv ER (Rd m) κ (cell c i)) : sProp 𝕄) from by
        rw [← bigSep_sep']
        exact (bigSep_mono fun i _ => (Rounds.body_intro ER (Rd m) (cell c i)).trans inv_alloc).trans (bigSep_fupd _ _)) $$ [Hv Hst] with Hinv
  · isplitl [Hv] <;> iassumption
  imodintro
  isplitl [Hinv]; · iexact Hinv
  iexact Hrest

theorem with_known {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- With every device's invariants allotted, each device has what it starts from. -/
theorem regroup : (bigSep Finset.univ fun c : Dev nD => iprop((bigSep Finset.univ fun i : CIx => iprop(∃ κ : ℕ, cellInv ER (Rd m) κ (cell c i)))
      ∗ starts c ∗ (bigSep Finset.univ fun i : CIx => reached ER (cell c i) 0) ∗ minted c) : sProp 𝕄) ⊢ bigSep Finset.univ (ready m) := by
  rw [bigSep_sep', bigSep_sep', bigSep_sep', ← bigSep_univ_prod (fun x : Dev nD × CIx => (iprop(∃ κ : ℕ, cellInv ER (Rd m) κ (cellAt x)) : sProp 𝕄)),
    ← bigSep_univ_prod (fun x : Dev nD × CIx => (reached ER (cellAt x) 0 : sProp 𝕄))]
  iintro ⟨HI, Hat, #HR, Htok⟩
  ihave HK := (BI.bigSep_exists_pi Finset.univ (fun (x : Dev nD × CIx) (κ : ℕ) => (cellInv ER (Rd m) κ (cellAt x) : sProp 𝕄))) $$ HI
  icases HK with ⟨%K, #HI⟩
  ihave Htok := (minted_paid (F := F)) $$ Htok
  iapply (with_known (R := known m K) (Φ := fun c => iprop(starts c ∗ paid c)) (fun c => (show iprop(known m K ∗ starts c ∗ paid c) ⊢ ready m c by
    unfold ready; iintro H; iexists K; iexact H)))
  isplitr
  · unfold known; isplitl; · iexact HI
    iexact HR
  ihave H := (show iprop((bigSep Finset.univ fun c : Dev nD => starts c) ∗ bigSep Finset.univ fun c : Dev nD => paid c)
      ⊢ (bigSep Finset.univ fun c : Dev nD => iprop(starts c ∗ paid c) : sProp 𝕄) from Entails.of_eq (bigSep_sep' _ _ _).symm) $$ [Hat Htok]
  · isplitl [Hat]; · iexact Hat
    iexact Htok
  iexact H

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => alloc_cells m c).trans (bigSep_fupd _ _)).trans (BI.fupd_mono (regroup m))

/-! ## The credits -/

theorem tally_cell (c d : Dev nD) (i j : CIx) (n : ℕ) :
    (tallyAt (cell d i) () n : CellTallies nD τ sig Unit) (cell c j) () = if d = c ∧ i = j then n else 0 := by
  rw [tallyAt_apply]
  by_cases h : d = c ∧ i = j
  · rw [if_pos h, h.1, h.2, if_pos ⟨rfl, rfl⟩]
  · rw [if_neg h, if_neg fun h' => h ⟨(cell_inj h'.1).1.symm, (cell_inj h'.1).2.symm⟩]

/-- What all devices together owe a cell, of a family each of whose members owes the peer of its step. -/
theorem owed_family (g : Dev nD → Fin 15 → CellTallies nD τ sig Unit) (ix : Dev nD → Fin 15 → CIx) (n : ℕ)
    (hg : ∀ d t, g d t = tallyAt (cell (peer d t) (ix (peer d t) t)) () n) (c : Dev nD) (i : CIx) :
    ∑ d : Dev nD, rem (g d) 0 (cell c i) () = ∑ t : Fin 15, if ix c t = i then n else 0 := by
  have e (d : Dev nD) : rem (g d) 0 (cell c i) () = ∑ t : Fin 15, if peer d t = c ∧ ix (peer d t) t = i then n else 0 := by
    unfold rem
    rw [Finset.filter_true_of_mem fun t _ => Nat.zero_le _, Finset.sum_apply, Finsupp.finset_sum_apply]
    exact Finset.sum_congr rfl fun t _ => by rw [hg, tally_cell]
  rw [Finset.sum_congr rfl fun d _ => e d, Finset.sum_comm]
  refine Finset.sum_congr rfl fun t _ => ?_
  rw [show (∑ d : Dev nD, if peer d t = c ∧ ix (peer d t) t = i then n else 0) = _ from (shift t).sum_comp fun d => if d = c ∧ ix d t = i then n else 0]
  rw [Finset.sum_eq_single c (fun d _ hd => if_neg fun h => hd h.1) (fun h => absurd (Finset.mem_univ c) h)]
  simp only [true_and]

/-- All that is owed to a cell at the start. -/
theorem owed_cell (c : Dev nD) (i : CIx) : ∑ d : Dev nD, O₀ d (cell c i) ()
    = (∑ _t : Fin 15, if none = i then 1 else 0) + ((∑ t : Fin 15, if some (1, from_ c t) = i then N₁ else 0) + ∑ t : Fin 15, if some (3, from_ c t) = i then N₂ else 0) := by
  rw [← owed_family gSig (fun _ _ => none) 1 (fun d t => rfl) c i,
    ← owed_family gBlk (fun d t => some (1, from_ d t)) N₁ (fun d t => by unfold gBlk; rw [from_peer]) c i,
    ← owed_family gMax (fun d t => some (3, from_ d t)) N₂ (fun d t => by unfold gMax; rw [from_peer]) c i,
    ← Finset.sum_add_distrib, ← Finset.sum_add_distrib]
  rfl

theorem launch_cell (c : Dev nD) (i : CIx) {n : ℕ} (h : ∑ d : Dev nD, O₀ d (cell c i) () = n) :
    tallyOn (cell c i) (launchCredit (Pipeline.owing O₀) 0 (cell c i)) = (tallyAt (cell c i) () n : CellTallies nD τ sig Unit) := by
  unfold tallyAt; refine congrArg _ (Finsupp.ext fun u => ?_); cases u
  rw [Pipeline.launchCredit_owing, Finsupp.single_eq_same, h]

theorem owed_bar (c : Dev nD) : ∑ d : Dev nD, O₀ d (cell c none) () = 15 := by rw [owed_cell]; simp
theorem owed_blk (c : Dev nD) (t : Fin 15) : ∑ d : Dev nD, O₀ d (cell c (some (1, from_ c t))) () = amt (some (1, from_ c t)) := by
  rw [owed_cell, Finset.sum_eq_zero fun t' _ => if_neg (fun h => by cases h), zero_add,
    Finset.sum_eq_single (f := fun t' => if (some (1, from_ c t') : CIx) = some (1, from_ c t) then N₁ else 0) t
      (fun t' _ hd => if_neg fun h => hd (from_injective c (congrArg Prod.snd (Option.some.inj h)))) (fun h => absurd (Finset.mem_univ t) h), if_pos rfl,
    Finset.sum_eq_zero fun t' _ => if_neg (fun h => absurd (Prod.mk.inj (Option.some.inj h)).1 (by decide)), add_zero]
  rfl
theorem owed_max (c : Dev nD) (t : Fin 15) : ∑ d : Dev nD, O₀ d (cell c (some (3, from_ c t))) () = amt (some (3, from_ c t)) := by
  rw [owed_cell, Finset.sum_eq_zero fun t' _ => if_neg (fun h => by cases h), zero_add,
    Finset.sum_eq_zero fun t' _ => if_neg (fun h => absurd (Prod.mk.inj (Option.some.inj h)).1 (by decide)), zero_add,
    Finset.sum_eq_single (f := fun t' => if (some (3, from_ c t') : CIx) = some (3, from_ c t) then N₂ else 0) t
      (fun t' _ hd => if_neg fun h => hd (from_injective c (congrArg Prod.snd (Option.some.inj h)))) (fun h => absurd (Finset.mem_univ t) h), if_pos rfl]
  rfl

/-- The credits each device's body starts with. -/
theorem creds_intro (c : Dev nD) : (Pipeline.launchCred O₀ c : sProp 𝕄) ⊢ creds c := by
  unfold Pipeline.launchCred
  refine (bigSep_subset (Finset.subset_univ ((Finset.univ : Finset CIx).map ⟨csem, csem_injective⟩))).trans ?_
  rw [bigSep_map]
  refine (Entails.of_eq (bigSep_cells c _)).trans ?_
  iintro ⟨Hb, -, ⟨-, H1⟩, -, -, H3⟩
  isplitl [Hb]
  · iapply (Entails.of_eq (congrArg (fun x => (cred x : sProp 𝕄)) (launch_cell c none (owed_bar c)))); iexact Hb
  isplitl [H1]
  · iapply (Entails.of_eq (bigSep_congr (s := (Finset.univ : Finset (Fin 15))) fun t _ => congrArg (fun x => (cred x : sProp 𝕄)) (launch_cell c (some (1, from_ c t)) (owed_blk c t)))); iexact H1
  · iapply (Entails.of_eq (bigSep_congr (s := (Finset.univ : Finset (Fin 15))) fun t _ => congrArg (fun x => (cred x : sProp 𝕄)) (launch_cell c (some (3, from_ c t)) (owed_max c t)))); iexact H3

end Cert.KernelIdeal.Own

end
-- ==== Proof.Launch.lean ====
/- The run of the whole program: every device's kernel launched together, ending with the operands unchanged, the result's columns written, and every counter at zero. -/
module

public import proofs.«01_k».proof.Proof.Fund
public import proofs.«01_k».proof.Proof.Gen.KernelIdeal.Points
public import Idealize.ShloMosaic.Lib.Pipeline.CollectiveSegs
public import Idealize.ShloMosaic.Lib.Pipeline.ValueKit

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := Fin.ext (by have := cfg0_N; have := t.isLt; show t.val = 0; omega)

/-! ## The proof's data -/

/-- A device's four scratch buffers, whatever they hold. -/
abbrev scratch (c : Dev nD) : sProp 𝕄 := iprop(any c cc0_scratch0 ∗ any c cc0_scratch1 ∗ any c cc0_scratch2 ∗ any c cc0_scratch3)

/-- Before the kernel: the invariants, positions and duties, the credits, and the levels. -/
def start (c : Dev nD) : sProp 𝕄 := iprop(ready m c ∗ creds c ∗ levAts L lv)
def before₀ (c : Dev nD) : sProp 𝕄 := iprop(start m c ∗ scratch c)
/-- After it: the scratch again, and every cell's counter at zero. -/
def after₀ (c : Dev nD) : sProp 𝕄 := iprop(scratch c ∗ bigSep Finset.univ fun i : CIx => semVal (cell c i) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => before₀ m c
    | ⟨_ + 1, _⟩ => after₀ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-! ## The body's obligation -/

theorem before_x (c : Dev nD) (d) : (dats m 0 c).before (0 : Fin 3) t₀ d = xstg m c := by
  unfold Dat.before; rw [if_pos (fetch0_0 t₀)]; rfl
theorem before_w (c : Dev nD) (d) : (dats m 0 c).before (1 : Fin 3) t₀ d = wstg m c := by
  unfold Dat.before; rw [if_pos (fetch0_1 t₀)]; rfl

def bodyPre (c : Dev nD) : sProp 𝕄 := iprop(before₀ m c ∗ (dats m 0 c).owesAt () t₀.castSucc
  ∗ (∃ d, stg c cc0_stg0_0 ((dats m 0 c).before (0 : Fin 3) t₀ d))
  ∗ (∃ d, stg c cc0_stg1_0 ((dats m 0 c).before (1 : Fin 3) t₀ d))
  ∗ (∃ d, stg c cc0_stg2_0 ((dats m 0 c).before (2 : Fin 3) t₀ d)))
def bodyPost (c : Dev nD) : sProp 𝕄 := iprop(after₀ c ∗ (dats m 0 c).owesAt () t₀.succ
  ∗ stg c cc0_stg0_0 (xstg m c) ∗ stg c cc0_stg1_0 (wstg m c) ∗ stg c cc0_stg2_0 (outAt m c))

theorem owes_enter (c : Dev nD) : (dats m 0 c).owesAt () t₀.castSucc ⊢ (owing c (O₀ c) : sProp 𝕄) := by
  unfold Dat.owesAt Pipeline.owesWithin
  iintro ⟨%W, %hW, HO⟩
  iexists W; iexact HO
theorem owes_leave (c : Dev nD) : owing c 0 ⊢ ((dats m 0 c).owesAt () t₀.succ : sProp 𝕄) := by
  unfold Dat.owesAt Pipeline.owesWithin
  iintro ⟨%W, HO⟩
  iexists W
  isplitr
  · ipureintro; exact fun _ _ => Or.inl trivial
  iexact HO

theorem run_post (K : Dev nD × CIx → ℕ) (c : Dev nD) :
    iprop(ctx m K ∗ (xHeld m c ∗ wHeld m c ∗ any c cc0_stg2_0) ∗ scratch c ∗ (starts c ∗ sigToks c ∗ blkToks c ∗ maxToks c) ∗ creds c ∗ owing c (O₀ c))
      ⊢ run c (kloops (F := F)) fun _ => bodyPost m c :=
  (run_loops m K c).trans (wp_mono _ _ _ fun _ => by
    show (_ : sProp 𝕄) ⊢ _
    unfold bodyPost after₀ scratch stg
    iintro ⟨⟨Hx, Hw, Ho⟩, Hs, Hv, HO⟩
    isplitl [Hs Hv]
    · isplitl [Hs] <;> iassumption
    isplitl [HO]
    · iapply (owes_leave m c); iexact HO
    isplitl [Hx]
    · iexists _; isplitr; · ipureintro; rfl
      iexact Hx
    isplitl [Hw]
    · iexists _; isplitr; · ipureintro; rfl
      iexact Hw
    iexists _; isplitr; · ipureintro; rfl
    iexact Ho)

theorem sound_body (c : Dev nD) : bodyPre m c ⊢ run c (kloops (F := F)) fun _ => bodyPost m c := by
  unfold bodyPre before₀ start ready
  simp only [before_x, before_w]
  iintro ⟨⟨⟨⟨%K, #HK, Hat, Ht⟩, Hcr, #HL⟩, Hscr⟩, HO, ⟨%d0, %f0, %h0, Hx⟩, ⟨%d1, %f1, %h1, Hw⟩, ⟨%d2, %f2, -, Ho⟩⟩
  subst h0; subst h1
  ihave HO := (owes_enter m c) $$ HO
  iapply (run_post m K c)
  isplitr
  · unfold known ctx
    rw [bigSep_sep']
    isplitl; · iexact HK
    iexact HL
  isplitl [Hx Hw Ho]
  · isplitl [Hx]; · iexact Hx
    isplitl [Hw]; · iexact Hw
    iexists f2; iexact Ho
  isplitl [Hscr]; · iexact Hscr
  isplitl [Hat Ht]
  · isplitl [Hat]; · iexact Hat
    iexact Ht
  isplitl [Hcr]; · iexact Hcr
  iexact HO

set_option maxRecDepth 4000 in
/-- The body's obligation on device `c`. -/
theorem body_obligation (c : Dev nD) : BodyObligation (dats m 0 c) (defs₀ (F := F)) 𝒱₀ () Set.univ := fun t => by
  rw [fin_N t]
  rw [bigSep_W0, bigSep_W0]
  simp only [owns_whole_eq]
  refine (sound_body m c).trans (Entails.of_eq ?_)
  unfold run kloops
  rw [← body_eq_loops]
  rfl

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ emp) := by
  iintro ⟨-, HL, Hcr, -, HR⟩
  ihave Hcr := (creds_intro (F := F) c) $$ Hcr
  imodintro
  unfold start
  isplitl
  · isplitl [HR]; · iexact HR
    isplitl [Hcr]; · iexact Hcr
    iexact HL
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before₀ m c from rfl, scopedRest0_eq]
  unfold before₀
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after₀ c from rfl, scopedRest0_eq]
  unfold after₀
  rw [← sems_eq]
  iintro ⟨Hr, Hos, Hus⟩
  isplitl [Hus]; · iexact Hus
  isplitl [Hos]; · iexact Hos
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What window `w`'s array holds at the end. -/
def finalA (c : Dev nD) (w : Fin cfg0.W) : Buf (Elt F) ((cfg0.win w).arr.view.loc (c : Thread nD τ)) := (dats m 0 c).arrAt w cfg0.N

set_option maxRecDepth 16000 in
/-- On sixteen devices, for any float values, from any memory with the counters at zero: every fair execution of the program ends, and
    in every final state each device's arrays hold `finalA` and every counter is at zero. -/
theorem run_final : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := ready m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

theorem final_x (c : Dev nD) : finalA m c (0 : Fin 3) = m ((c : Thread nD τ).loc main_arg0) := (dats m 0 c).arrAt_in (0 : Fin 3) rfl _
theorem final_w (c : Dev nD) : finalA m c (1 : Fin 3) = m ((c : Thread nD τ).loc main_arg1) := (dats m 0 c).arrAt_in (1 : Fin 3) rfl _

theorem final_out (c : Dev nD) : finalA m c (2 : Fin 3) = outAt m c :=
  (dats m 0 c).arrAt_eq_of_covers (2 : Fin 3) (outAt m c) (by decide +kernel) fun t _ y => by
    obtain rfl := fin_N t
    show outAt m c _ = outAt m c _
    refine congrArg (outAt m c) (funext fun a => Fin.ext ?_)
    match a with
    | ⟨0, _⟩ => exact (show (y ⟨0, _⟩).val = 0 * 4096 + 1 * (y ⟨0, _⟩).val by omega)
    | ⟨1, _⟩ => exact (show (y ⟨1, _⟩).val = 0 * 128 + 1 * (y ⟨1, _⟩).val by omega)

/-- From any memory: the run ends with the operands unchanged, each device's result its columns, and the counters at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = outAt m c) ∧ r.2.sem = fun _ => 0) :=
  (θ_run defs _ _).mono (fun _ h => ⟨fun c => ⟨(h.1 c 0).trans (final_x m c), (h.1 c 1).trans (final_w m c), (h.1 c 2).trans (final_out m c)⟩, h.2⟩)
    (run_final m ρ)

end Cert.KernelIdeal.Own

end
-- ==== Proof.Plain.lean ====
/- The mathematics of the problem, over the extended reals: a product clamped below at zero, its largest entry, and the quantiser with the
scale which that entry gives. Here too: how a largest entry, however it is folded, is compared with a bound. -/
module

public import Idealize.ShloMosaic.PureOps.Ideal.Laws
public import Idealize.ShloMosaic.Lib.ValueIdx
public import Idealize.ShloMosaic.Lib.Pipeline.Value

@[expose] public section

noncomputable section

namespace Cert.Plain

open Idealize.ShloMosaic Idealize.ShloMosaic.ValueIdx

/-! ## The result -/

variable (X : (⟨2, ![4096, 4096]⟩ : Shape).Idx → EReal) (W : (⟨2, ![4096, 2048]⟩ : Shape).Idx → EReal)

/-- The product's entry at a row and a column, clamped below at zero. -/
def entry (r : Fin 4096) (l : Fin 2048) : EReal := max (∑ k : Fin 4096, X (ix2 r k) * W (ix2 k l)) 0
/-- The largest of them. -/
def largest : EReal := ⨆ r, ⨆ l, entry X W r l
/-- The scale: the largest entry over 127. -/
def scale : EReal := Ideal.div (largest X W) (Ideal.ofBits .f32 0x42FE0000#32)
/-- A number rounded to a whole multiple of the scale, at most 127 of them either way. -/
def quant (s y : EReal) : EReal :=
  min (Ideal.ofBits .f32 0x42FE0000#32) (max (Ideal.ofBits .f32 0xC2FE0000#32) (Ideal.liftRound Ideal.roundHalfEven (Ideal.div y s))) * s
/-- The result: every entry quantised. -/
def result : (⟨2, ![4096, 2048]⟩ : Shape).Idx → EReal := fun i => quant (scale X W) (entry X W (i 0) (i 1))

theorem entry_nonneg (r : Fin 4096) (l : Fin 2048) : 0 ≤ entry X W r l := le_max_right _ _

/-- A bound on the largest entry is a bound on every entry. -/
theorem largest_le (b : EReal) : largest X W ≤ b ↔ ∀ r l, entry X W r l ≤ b := by
  unfold largest; simp only [iSup_le_iff]

/-! ## Largest entries and bounds -/

theorem neg_inf : Ideal.ofBits .f32 0xFF800000#32 = ⊥ := by simp [Ideal.ofBits, Ideal.ieee]

/-- What holds of every entry of an array holds of every entry of the array in another shape, and the other way around. -/
theorem forall_shapeCast {s t : Shape} {α : Type} (x : s.Idx → α) (h : s.ShapeCasts t) (P : α → Prop) :
    (∀ j, P (shapeCast t x h j)) ↔ ∀ i, P (x i) :=
  ⟨fun H i => by
    have := H ((Shape.reshapeEquiv h).symm i)
    unfold shapeCast at this; rwa [Equiv.apply_symm_apply] at this, fun H j => H _⟩

/-- A reduction to a single place by the maximum, from −∞: a bound on it is a bound on every entry. -/
theorem multiReduction_le {s t : Shape} {axes : List (Fin s.rank)} (x : FVec Ideal s .f32) (h : s.Reduces axes t) (hφ : FKind.Formats .f32)
    (hacc : (0xFF800000#32 : BitVec FTy.f32.bits) = FKind.maximumf.neutral .f32 hφ) (ht : ∀ b, t.size b = 1) (j : t.Idx) (b : EReal) :
    multiReduction .maximumf axes t x 0xFF800000#32 h hφ hacc j ≤ b ↔ ∀ i, x i ≤ b := by
  rw [multiReduction_maximumf_eq_fold, Finset.filter_true_of_mem fun i _ => funext fun a => Fin.ext (by
    have := (h.drop i a).isLt; have := (j a).isLt; have := ht a; omega)]
  show Finset.fold max (Ideal.ofBits .f32 0xFF800000#32) x Finset.univ ≤ b ↔ _
  rw [Finset.fold_max_le, neg_inf]
  simp

/-- The same of the host's reduction. -/
theorem reduce_le {s t u : Shape} {axes : List (Fin s.rank)} (x : FVec Ideal s .f32) (h : s.ReducesTo axes t) (hu : 0 < u.numel)
    (ht : ∀ b, t.size b = 1) (j : t.Idx) (b : EReal) :
    Host.reduce FloatOps.maximumf x (constant (F := Ideal) u .f32 0xFF800000#32) h hu j ≤ b ↔ ∀ i, x i ≤ b := by
  rw [Host.reduce_eq_fold, Finset.filter_true_of_mem fun i _ => funext fun a => Fin.ext (by
    have := (h.drop i a).isLt; have := (j a).isLt; have := ht a; omega)]
  show Finset.fold max (Ideal.ofBits .f32 0xFF800000#32) x Finset.univ ≤ b ↔ _
  rw [Finset.fold_max_le, neg_inf]
  simp

end Cert.Plain

end
-- ==== Proof.Reference.lean ====
/- What the reference computes, over the extended reals: the plain result. -/
module

public import proofs.«01_k».proof.Proof.Plain
public import proofs.«01_k».proof.Proof.Gen.ReferenceIdeal.Run
public import Idealize.ShloMosaic.Lib.StackMember

@[expose] public section

noncomputable section

namespace Cert.ReferenceIdeal.Value

open Cert.ReferenceIdeal Cert.ReferenceIdeal.Gen Idealize.ShloMosaic Idealize.ShloMosaic.TcCoe Idealize.ShloMosaic.ValueIdx Idealize.SL.Sem

variable (X : FVec Ideal S4096x4096 .bf16) (W : FVec Ideal S4096x2048 .bf16)

/-- The clamped product, as the reference writes it. -/
def product : FVec Ideal S4096x2048 .f32 :=
  maximumf (Host.dotGeneral (φ₂ := .bf16) dot_S4096x4096_S4096x2048_S4096x2048_1_0_0_1_n_n none X W)
    (broadcastInDim S4096x2048 ![] bcast_S_S4096x2048 (constant (F := Ideal) S_ .f32 0x00000000#32))
/-- The scale, as the reference writes it. -/
def scale0 : FVec Ideal S_ .f32 :=
  Host.divf (Host.reduce FloatOps.maximumf (Host.absf (product X W)) (constant (F := Ideal) S_ .f32 0xFF800000#32) reducesTo_S4096x2048_S_d0_1 h_S_)
    (constant (F := Ideal) S_ .f32 0x42FE0000#32)

theorem product_apply (i : S4096x2048.Idx) : product X W i = Plain.entry X W (i 0) (i 1) := by
  refine congrArg₂ max ((congrArg _ (eq_ix2 i)).trans (StackMember.dotGeneral_plain_apply none X W (i 0) (i 1))) ?_
  exact Ideal.ofBits_zero_f32

/-- The scale is the largest entry over 127: no entry is below zero, so the absolute values are the entries. -/
theorem scale0_apply (j : S_.Idx) : scale0 X W j = Plain.scale X W := by
  unfold scale0 Plain.scale
  refine congrArg₂ Ideal.div (eq_of_forall_ge_iff fun b => ?_) rfl
  rw [Plain.reduce_le _ _ _ (fun a => a.elim0), Plain.largest_le]
  have e (i : S4096x2048.Idx) : Host.absf (product X W) i = Plain.entry X W (i 0) (i 1) := by
    show max (product X W i) (-(product X W i)) = _
    rw [product_apply]
    exact max_eq_left ((EReal.neg_le_neg_iff.2 (Plain.entry_nonneg X W _ _)).trans (by simpa using Plain.entry_nonneg X W _ _))
  exact ⟨fun h r l => by simpa only [e] using h (ix2 r l), fun h i => by rw [e]; exact h _ _⟩

/-- The reference runs to the end, leaves the plain result, and its arguments as they were. -/
theorem run_plain (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = Plain.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans (funext fun i => ?_), (h c).2⟩) (run (F := Ideal) m ρ)
  show Plain.quant (scale0 _ _ _) (product _ _ i) = _
  rw [scale0_apply, product_apply]
  rfl

end Cert.ReferenceIdeal.Value

end
-- ==== Proof.Value.lean ====
/- What the kernel leaves, over the extended reals: each device has its block of columns of the plain result.

The maxima are compared through their upper bounds: a number bounds a device's largest entry exactly when it is at least
zero and bounds every entry of the sixteen blocks that device computes. -/
module

public import proofs.«01_k».proof.Proof.Plain
public import proofs.«01_k».proof.Proof.Contents
public import Idealize.ShloMosaic.Lib.MatmulPlain
public import Idealize.ShloMosaic.Lib.Pipeline.Value
public import Idealize.ShloMosaic.Lib.Layout

@[expose] public section

noncomputable section

namespace Cert.KernelIdeal.Own

open Cert.KernelIdeal Cert.KernelIdeal.Gen
open Idealize.ShloMosaic Idealize.ShloMosaic.TcCoe Idealize.ShloMosaic.ValueIdx

/-! ## The stretches -/

/-- An entry picked out of an array in another shape is an entry of the array. -/
theorem extractAt_shapeCast {s t : Shape} {α : Type} (x : s.Idx → α) (h : s.ShapeCasts t) (p : Fin t.rank → ℕ) (hp : ∀ a, p a < t.size a) :
    ∃ j, extractAt p (shapeCast t x h) hp = x j := ⟨_, rfl⟩

/-- A bound on the larger of a number and a block's largest entry bounds both. -/
theorem maxBlk_le (a : Ideal .f32) (y : FVec Ideal S256x128 .f32) (b : EReal) :
    (maxBlk a y : EReal) ≤ b ↔ (a : EReal) ≤ b ∧ ∀ i, (y i : EReal) ≤ b := by
  unfold maxBlk
  refine max_le_iff.trans (and_congr_right fun _ => ?_)
  rw [(extractAt_shapeCast _ shapeCasts_S1_S1x1x1 ![0, 0, 0] inpos_S1x1x1_p0_0_0).choose_spec]
  refine (Plain.multiReduction_le _ reduces_S1x256x128_S1 (.inl rfl) rfl (by decide) _ b).trans ?_
  exact Plain.forall_shapeCast y shapeCasts_S256x128_S1x256x128 (fun v : EReal => v ≤ b)

/-- The largest of sixteen numbers, before it is divided. -/
def largestOf (v : FVec Ideal S16x1x1 .f32) : Ideal .f32 :=
  extractAt ![0, 0] (shapeCast S1x1 (multiReduction .maximumf [1] S1
    (shapeCast S1x16 (shapeCast S16 v shapeCasts_S16x1x1_S16) shapeCasts_S16_S1x16) 0xFF800000#32 reduces_S1x16_S1 (.inl rfl) rfl)
    shapeCasts_S1_S1x1) inpos_S1x1_p0_0

theorem scaleOf_eq (v : FVec Ideal S16x1x1 .f32) :
    scaleOf (F := Ideal) v = Ideal.div (largestOf v) (Ideal.ofBits .f32 0x42FE0000#32) := by
  unfold scaleOf largestOf; rfl

theorem largestOf_le (v : FVec Ideal S16x1x1 .f32) (b : EReal) : (largestOf v : EReal) ≤ b ↔ ∀ i, (v i : EReal) ≤ b := by
  unfold largestOf
  rw [(extractAt_shapeCast _ shapeCasts_S1_S1x1 ![0, 0] inpos_S1x1_p0_0).choose_spec]
  refine (Plain.multiReduction_le _ reduces_S1x16_S1 (.inl rfl) rfl (by decide) _ b).trans ?_
  exact (Plain.forall_shapeCast _ shapeCasts_S16_S1x16 (fun x : EReal => x ≤ b)).trans
    (Plain.forall_shapeCast v shapeCasts_S16x1x1_S16 (fun x : EReal => x ≤ b))

/-- A block packed, sent and quantised is every entry quantised. -/
theorem quantBlk_apply (s : Ideal .f32) (y : FVec Ideal S256x128 .f32) (i : S256x128.Idx) :
    quantBlk s (packBlk y) i = Plain.quant s (y i) := by
  have e : shapeCast S256x128 (packBlk y) shapeCasts_S1x256x128_S256x128 = y := shapeCast_shapeCast _ _ _
  have h : quantBlk s (packBlk y) i = Plain.quant s (shapeCast S256x128 (packBlk y) shapeCasts_S1x256x128_S256x128 i) := rfl
  rw [h, e]

theorem reluBlk_apply (x : FVec Ideal S256x4096 .bf16) (w : FVec Ideal S4096x128 .bf16) (r : Fin 256) (l : Fin 128) :
    (reluBlk (F := Ideal) x w (ix2 r l) : EReal) = max (∑ k : Fin 4096, (x (ix2 r k) : EReal) * w (ix2 k l)) 0 := by
  unfold reluBlk
  rw [shapeCast_self, shapeCast_self]
  refine congrArg₂ max ((Ideal.matmul_plain_apply none x w _ r l).trans ?_) Ideal.ofBits_zero_f32
  refine (congrArg (· + _) ?_).trans (zero_add _)
  exact Ideal.ofBits_zero_f32

/-! ## The blocks -/

variable (m : (ℓ : Loc nD τ sig) → Buf (Elt Ideal) ℓ)
  (X : (⟨2, ![4096, 4096]⟩ : Shape).Idx → EReal) (W : (⟨2, ![4096, 2048]⟩ : Shape).Idx → EReal)

/-- Row `r` of device `c`'s block of rows, in the whole. -/
def rowAt (c : Dev nD) (r : Fin 256) : Fin 4096 := ⟨c.val * 256 + r.val, by have := c.isLt; have : nD = 16 := rfl; omega⟩
/-- Column `l` of column block `j`, in the whole. -/
def colAt (j : Dev nD) (l : Fin 128) : Fin 2048 := ⟨j.val * 128 + l.val, by have := j.isLt; have : nD = 16 := rfl; omega⟩

/-- Each device has its block of rows of `X`, and all of `W`. -/
structure Holds : Prop where
  x : ∀ c : Dev nD, m ((c : Thread nD τ).loc main_arg0) = Layout.block ⟨2, ![256, 4096]⟩ ⟨2, ![4096, 4096]⟩ 0 16 c X
  w : ∀ c : Dev nD, m ((c : Thread nD τ).loc main_arg1) = W

variable {m X W}

theorem xstg_apply (h : Holds m X W) (c : Dev nD) (r : Fin 256) (k : Fin 4096) :
    (xstg m c : S256x4096.Idx → EReal) (ix2 r k) = X (ix2 (rowAt c r) k) := by
  unfold xstg
  rw [h.x]
  refine congrArg X (funext fun a => Fin.ext ?_)
  match a with
  | ⟨0, _⟩ => show c.val * 256 + (0 * _ + 1 * r.val) = c.val * 256 + r.val; omega
  | ⟨1, _⟩ => show 0 * _ + 1 * k.val = k.val; omega

theorem wcol_apply (h : Holds m X W) (c j : Dev nD) (k : Fin 4096) (l : Fin 128) :
    (wcol m c j : S4096x128.Idx → EReal) (ix2 k l) = W (ix2 k (colAt j l)) := by
  unfold wcol wstg
  rw [h.w]
  refine congrArg W (funext fun a => Fin.ext ?_)
  match a with
  | ⟨0, _⟩ => show 0 * _ + 1 * (0 + 1 * k.val) = k.val; omega
  | ⟨1, _⟩ => show 0 * _ + 1 * (128 * j.val + 1 * l.val) = j.val * 128 + l.val; omega

/-- An entry of a block is an entry of the clamped product. -/
theorem blk_apply (h : Holds m X W) (c j : Dev nD) (r : Fin 256) (l : Fin 128) :
    (blk m c j (ix2 r l) : EReal) = Plain.entry X W (rowAt c r) (colAt j l) := by
  refine (reluBlk_apply _ _ r l).trans ?_
  unfold Plain.entry
  refine congrArg (max · 0) (Finset.sum_congr rfl fun k _ => ?_)
  exact congrArg₂ (· * ·) (xstg_apply h c r k) (wcol_apply h c j k l)

/-! ## The scale -/

theorem runMax_le (c : Dev nD) (k : ℕ) (b : EReal) :
    (runMax m c k : EReal) ≤ b ↔ 0 ≤ b ∧ ∀ t < k, ∀ i, (blk m c (peerN c t) i : EReal) ≤ b := by
  induction k with
  | zero =>
    have e : (runMax m c 0 : EReal) = 0 := Ideal.ofBits_zero_f32
    rw [e]; simp
  | succ k ih =>
    have e : runMax m c (k + 1) = maxBlk (runMax m c k) (blk m c (peerN c k)) := rfl
    rw [e, maxBlk_le, ih, and_assoc]
    refine and_congr_right fun _ => ⟨fun H t ht => ?_, fun H => ⟨fun t ht => H t (by omega), H k (by omega)⟩⟩
    rcases Nat.lt_succ_iff_lt_or_eq.1 ht with h | rfl
    · exact H.1 t h
    · exact H.2

/-- A bound on a device's largest entry is at least zero and bounds every entry of its sixteen blocks. -/
theorem top_le (c : Dev nD) (b : EReal) : (top m c : EReal) ≤ b ↔ 0 ≤ b ∧ ∀ p i, (blk m c p i : EReal) ≤ b := by
  unfold top
  rw [maxBlk_le, runMax_le, and_assoc]
  refine and_congr_right fun _ => ⟨fun H p => ?_, fun H => ⟨fun t _ => H _, H c⟩⟩
  have hp : p ∈ insert c (Finset.univ.map ⟨peer c, peer_injective c⟩) := univ_peers c ▸ Finset.mem_univ p
  rcases Finset.mem_insert.1 hp with rfl | hp
  · exact H.2
  · obtain ⟨t, -, rfl⟩ := Finset.mem_map.1 hp
    exact H.1 t.val t.isLt

/-- The devices' scale is the plain one. -/
theorem scale_eq (h : Holds m X W) : (scale m : EReal) = Plain.scale X W := by
  unfold scale Plain.scale
  rw [scaleOf_eq]
  refine congrArg₂ Ideal.div (eq_of_forall_ge_iff fun b => ?_) rfl
  rw [largestOf_le, Plain.largest_le]
  constructor
  · intro H r l
    have hr := r.isLt; have hl := l.isLt
    have H' := ((top_le ⟨r.val / 256, by show _ < 16; omega⟩ b).1 (H (ix3 ⟨r.val / 256, by omega⟩ 0 0))).2
      ⟨l.val / 128, by show _ < 16; omega⟩ (ix2 ⟨r.val % 256, by omega⟩ ⟨l.val % 128, by omega⟩)
    rw [blk_apply h] at H'
    refine le_of_eq_of_le (congrArg₂ (Plain.entry X W) (Fin.ext ?_) (Fin.ext ?_)) H'
    · show r.val = r.val / 256 * 256 + r.val % 256; omega
    · show l.val = l.val / 128 * 128 + l.val % 128; omega
  · intro H i
    refine (top_le (i 0) b).2 ⟨(Plain.entry_nonneg X W 0 0).trans (H 0 0), fun p y => ?_⟩
    refine le_of_eq_of_le ?_ (H (rowAt (i 0) (y 0)) (colAt p (y 1)))
    exact (congrArg _ (eq_ix2 y)).trans (blk_apply h _ _ _ _)

/-! ## The result -/

/-- What a device ends with is its block of columns of the plain result. -/
theorem outAt_eq (h : Holds m X W) (c : Dev nD) :
    outAt m c = Layout.block ⟨2, ![4096, 128]⟩ ⟨2, ![4096, 2048]⟩ 1 16 c (Plain.result X W) := by
  funext i
  refine (quantBlk_apply _ _ _).trans ?_
  rw [blk_apply h]
  refine congrArg₂ Plain.quant (scale_eq h) (congrArg₂ (Plain.entry X W) (Fin.ext ?_) (Fin.ext rfl))
  show (i 0).val / 256 * 256 + (i 0).val % 256 = (i 0).val
  omega

end Cert.KernelIdeal.Own

end
-- ==== Proof.lean ====
/- The certificate: the three frames, and the value equation, put together.

`run_main` (Proof/Launch.lean) is the run of the kernel over any float values, so it gives the frame of the kernel at machine floats and the
frame of its idealization; `algebraic` reads the same run at the extended reals and compares it with the reference's run. -/
module

public import proofs.«01_k».proof.Defs
public import proofs.«01_k».proof.Proof.Same
public import proofs.«01_k».proof.Proof.Launch
public import proofs.«01_k».proof.Proof.Gen.ReferenceIdeal
public import proofs.«01_k».proof.Proof.Gen.ReferenceIdeal.Run
public import proofs.«01_k».proof.Proof.Reference
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The frame over any float values: the program runs to the end with its operands unchanged and every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => ⟨(h.1 c).1, (h.1 c).2.1⟩, h.2⟩) (Cert.KernelIdeal.Own.run_main m ρ)

/-- The kernel's frame, at machine floats: the program is the idealization's text, word for word. -/
theorem frame_kernel : Cert.quiescent_Kernel := fun m ρ _ => by
  rw [same_defs]
  exact frame_any (F := Bits) m ρ

/-- The idealization's frame. -/
theorem frame_ideal : Cert.quiescent_KernelIdeal := fun m ρ _ => frame_any (F := Ideal) m ρ

/-- The reference's frame: it has no semaphore, and its run leaves its arguments as they were. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- Both compute the plain result: the reference the whole of it, each device of the kernel its block of columns. -/
theorem algebraic : Cert.algebraic_KernelIdeal_ReferenceIdeal := fun m g m' g' _ h =>
  ⟨Cert.Plain.result _ _,
    (θ_run Cert.KernelIdeal.defs _ _).mono
      (fun _ hr c => ⟨(hr.1 c).2.2.trans (Cert.KernelIdeal.Own.outAt_eq ⟨fun c => (h c).1, fun c => (h c).2⟩ c), (hr.1 c).1, (hr.1 c).2.1⟩)
      (Cert.KernelIdeal.Own.run_main (F := Ideal) m g),
    (θ_run Cert.ReferenceIdeal.defs _ _).mono (fun _ hr => hr 0) (Cert.ReferenceIdeal.Value.run_plain m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
